-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S64x14x14x768 : Shape := ⟨4, ![64, 14, 14, 768]⟩
abbrev S64x1 : Shape := ⟨2, ![64, 1]⟩
abbrev S1000x768 : Shape := ⟨2, ![1000, 768]⟩
abbrev S_ : Shape := ⟨0, ![]⟩

class Facts : Prop where
  bcast_S_S64x1 : S_.BroadcastsInDim S64x1 (![] : Fin 0 → Fin S64x1.rank)
  reducesTo_S64x1_S_d0_1 : S64x1.ReducesTo [0, 1] S_
  h_S_ : 0 < S_.numel

variable [Facts]

def fn {F : FTy → Type} [FloatOps F] (main_arg0 : FVec F S64x14x14x768 .f32) (main_arg1 : IVec S64x1 32) (main_arg2 : FVec F S1000x768 .f32) (main_arg3 : FVec F S1000x768 .f32) : IVec S_ 1 :=
  let main_c : IVec S_ 32 := constantI S_ 32 0#32
  let main_v0 : IVec S64x1 32 := broadcastInDim S64x1 ![] bcast_S_S64x1 main_c
  let main_v1 : IVec S64x1 1 := cmpi .sge main_arg1 main_v0
  let main_c_0 : IVec S_ 32 := constantI S_ 32 1000#32
  let main_v2 : IVec S64x1 32 := broadcastInDim S64x1 ![] bcast_S_S64x1 main_c_0
  let main_v3 : IVec S64x1 1 := cmpi .slt main_arg1 main_v2
  let main_v4 : IVec S64x1 1 := andi main_v1 main_v3
  let main_c_1 : IVec S_ 1 := constantI S_ 1 1#1
  let main_v5 : IVec S_ 1 := (fun x v => Host.reduce IntOp.andi x v reducesTo_S64x1_S_d0_1 h_S_) main_v4 main_c_1
  main_v5
-- ==== Kernel.lean ====
abbrev S64x14x14x768 : Shape := ⟨4, ![64, 14, 14, 768]⟩
abbrev S64x1 : Shape := ⟨2, ![64, 1]⟩
abbrev S1000x768 : Shape := ⟨2, ![1000, 768]⟩
abbrev S64 : Shape := ⟨1, ![64]⟩
abbrev S64x768 : Shape := ⟨2, ![64, 768]⟩
abbrev S8 : Shape := ⟨1, ![8]⟩
abbrev S8x768 : Shape := ⟨2, ![8, 768]⟩
abbrev S_ : Shape := ⟨0, ![]⟩
abbrev S8x128 : Shape := ⟨2, ![8, 128]⟩
abbrev S1000x128 : Shape := ⟨2, ![1000, 128]⟩
abbrev S14x14x64x768 : Shape := ⟨4, ![14, 14, 64, 768]⟩
abbrev S1x14x64x768 : Shape := ⟨4, ![1, 14, 64, 768]⟩
abbrev S1x1x64x768 : Shape := ⟨4, ![1, 1, 64, 768]⟩

abbrev nBuf : Table → Nat
  | .hbm => 10
  | .local .tc .vmem => 6
  | .local .scVector .vmem => 2
  | _ => 0

abbrev bufTy : (tb : Table) → Fin (nBuf tb) → BufTy
  | .hbm, ⟨0, _⟩ => ⟨S64x14x14x768, .f32⟩
  | .hbm, ⟨1, _⟩ => ⟨S64x1, .i32⟩
  | .hbm, ⟨2, _⟩ => ⟨S1000x768, .f32⟩
  | .hbm, ⟨3, _⟩ => ⟨S1000x768, .f32⟩
  | .hbm, ⟨4, _⟩ => ⟨S64, .i32⟩
  | .hbm, ⟨5, _⟩ => ⟨S64x768, .f32⟩
  | .hbm, ⟨6, _⟩ => ⟨S64x768, .f32⟩
  | .hbm, ⟨7, _⟩ => ⟨S14x14x64x768, .f32⟩
  | .hbm, ⟨8, _⟩ => ⟨S14x14x64x768, .f32⟩
  | .hbm, ⟨9, _⟩ => ⟨S64x14x14x768, .f32⟩
  | .local .tc .vmem, ⟨0, _⟩ => ⟨S1x14x64x768, .f32⟩
  | .local .tc .vmem, ⟨1, _⟩ => ⟨S1x14x64x768, .f32⟩
  | .local .tc .vmem, ⟨2, _⟩ => ⟨S64x768, .f32⟩
  | .local .tc .vmem, ⟨3, _⟩ => ⟨S64x768, .f32⟩
  | .local .tc .vmem, ⟨4, _⟩ => ⟨S1x14x64x768, .f32⟩
  | .local .tc .vmem, ⟨5, _⟩ => ⟨S1x14x64x768, .f32⟩
  | .local .scVector .vmem, ⟨0, _⟩ => ⟨S8, .i32⟩
  | .local .scVector .vmem, ⟨1, _⟩ => ⟨S8x768, .f32⟩
  | _, _ => ⟨S64x14x14x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev main_v1_0_scv : Ref sig .scVector := ⟨.hbm, 5, rfl⟩
abbrev main_v1_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1 : BitVec 32 := 8#32
  let v4 : BitVec 1 := Scalar.cmpi .slt v1 c8_i32_1
  let v5 : BitVec 32 := Scalar.extui v4
  let c0_i32 : BitVec 32 := 0#32
  let v6 : BitVec 1 := Scalar.cmpi .ne v5 c0_i32
  v6

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.remsi v1 c8_i32
  let c8_i32_0 : BitVec 32 := 8#32
  let v3 : BitVec 32 := Scalar.muli v2 c8_i32_0
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.remsi v1 c8_i32
  let c8_i32_0 : BitVec 32 := 8#32
  let v3 : BitVec 32 := Scalar.muli v2 c8_i32_0
  let c0_i32_47_r1 : BitVec 32 := 0#32
  ![v3.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v7 : BitVec 1 := Scalar.cmpi .sge v1 c8_i32_2
  let c16_i32 : BitVec 32 := 16#32
  let v8 : BitVec 1 := Scalar.cmpi .slt v1 c16_i32
  let v9 : BitVec 1 := Scalar.andi v7 v8
  let v10 : BitVec 32 := Scalar.extui v9
  let c0_i32_3 : BitVec 32 := 0#32
  let v11 : BitVec 1 := Scalar.cmpi .ne v10 c0_i32_3
  v11

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.remsi v1 c8_i32
  let c8_i32_0 : BitVec 32 := 8#32
  let v3 : BitVec 32 := Scalar.muli v2 c8_i32_0
  ![v3.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.remsi v1 c8_i32
  let c8_i32_0 : BitVec 32 := 8#32
  let v3 : BitVec 32 := Scalar.muli v2 c8_i32_0
  let c0_i32_47_r3 : BitVec 32 := 0#32
  ![v3.toNat, 0]
abbrev grid1 : Pipeline.Grid := ⟨1, ![14], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x14x64x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x14x64x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x14x14x768 : Shape := ⟨4, ![64, 14, 14, 768]⟩
abbrev S64x1 : Shape := ⟨2, ![64, 1]⟩
abbrev S1000x768 : Shape := ⟨2, ![1000, 768]⟩
abbrev S64 : Shape := ⟨1, ![64]⟩
abbrev S_ : Shape := ⟨0, ![]⟩
abbrev S1 : Shape := ⟨1, ![1]⟩
abbrev S1x1 : Shape := ⟨2, ![1, 1]⟩
abbrev S64x768 : Shape := ⟨2, ![64, 768]⟩
abbrev S64x1x1x768 : Shape := ⟨4, ![64, 1, 1, 768]⟩

abbrev nBuf : Space → Nat
  | .hbm => 57
  | .vmem => 0
  | .smem => 0
  | _ => 0

abbrev bufTy : (tb : Table) → Fin (tcTables nBuf tb) → BufTy
  | .hbm, ⟨0, _⟩ => ⟨S64x14x14x768, .f32⟩
  | .hbm, ⟨1, _⟩ => ⟨S64x1, .i32⟩
  | .hbm, ⟨2, _⟩ => ⟨S1000x768, .f32⟩
  | .hbm, ⟨3, _⟩ => ⟨S1000x768, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x768, .f32⟩
  | .hbm, ⟨24, _⟩ => ⟨S64x768, .i1⟩
  | .hbm, ⟨25, _⟩ => ⟨S_, .f32⟩
  | .hbm, ⟨26, _⟩ => ⟨S64x768, .f32⟩
  | .hbm, ⟨27, _⟩ => ⟨S64x768, .f32⟩
  | .hbm, ⟨28, _⟩ => ⟨S64x1x1x768, .f32⟩
  | .hbm, ⟨29, _⟩ => ⟨S64x14x14x768, .f32⟩
  | .hbm, ⟨30, _⟩ => ⟨S64x14x14x768, .f32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S1, .i32⟩
  | .hbm, ⟨40, _⟩ => ⟨S_, .i32⟩
  | .hbm, ⟨41, _⟩ => ⟨S64x1, .i32⟩
  | .hbm, ⟨42, _⟩ => ⟨S64x1, .i1⟩
  | .hbm, ⟨43, _⟩ => ⟨S1x1, .i32⟩
  | .hbm, ⟨44, _⟩ => ⟨S64x1, .i32⟩
  | .hbm, ⟨45, _⟩ => ⟨S64x1, .i1⟩
  | .hbm, ⟨46, _⟩ => ⟨S64x1, .i1⟩
  | .hbm, ⟨47, _⟩ => ⟨S_, .i1⟩
  | .hbm, ⟨48, _⟩ => ⟨S64, .i1⟩
  | .hbm, ⟨49, _⟩ => ⟨S64x768, .f32⟩
  | .hbm, ⟨50, _⟩ => ⟨S64x768, .i1⟩
  | .hbm, ⟨51, _⟩ => ⟨S_, .f32⟩
  | .hbm, ⟨52, _⟩ => ⟨S64x768, .f32⟩
  | .hbm, ⟨53, _⟩ => ⟨S64x768, .f32⟩
  | .hbm, ⟨54, _⟩ => ⟨S64x1x1x768, .f32⟩
  | .hbm, ⟨55, _⟩ => ⟨S64x14x14x768, .f32⟩
  | .hbm, ⟨56, _⟩ => ⟨S64x14x14x768, .f32⟩
  | _, _ => ⟨S64x14x14x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩

abbrev nD : Nat := 1
abbrev τ : Topo := Topo.v7x

variable {F : FTy → Type} [FloatOps F]
-- ==== Proof.Setup.lean ====
/-
  The set-up of the kernel's run: the program as the SparseCore launch theorem reads it, the algebra its proof keeps
  ghost state in, the buffers by name, and what the one SparseCore call carries. Thirty-two tiles run the gather: tile
  number `w = 2 * subcore + core` looks eight labels up in the table `gamma` when `w < 8`, in `beta` when `8 ≤ w < 16`,
  and rests otherwise. Each is handed a read share of both tables and of the labels, with the eight rows of the result it
  writes, and hands them back with those rows at the looked-up values.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay)
open Idealize.ShloMosaic.StableHlo (held launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the staging cells' rounds of the TensorCore call, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds: the left half of the right component. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The launch memory and the buffers -/

variable (m : (ℓ : Loc nD τ sig) → Buf (Elt F) ℓ) (ρ : Dev nD → PrngReg)

abbrev xLoc (d : Dev nD) : Loc nD τ sig := (SparseCore.T d).loc main_arg0
abbrev lLoc (d : Dev nD) : Loc nD τ sig := (SparseCore.T d).loc main_arg1
abbrev gamLoc (d : Dev nD) : Loc nD τ sig := (SparseCore.T d).loc main_arg2
abbrev betLoc (d : Dev nD) : Loc nD τ sig := (SparseCore.T d).loc main_arg3
abbrev labLoc (d : Dev nD) : Loc nD τ sig := (SparseCore.T d).loc main_v0
abbrev gLoc (d : Dev nD) : Loc nD τ sig := (SparseCore.T d).loc main_v1_0
abbrev bLoc (d : Dev nD) : Loc nD τ sig := (SparseCore.T d).loc main_v1_1

/-! ## The labels and the looked-up rows -/

/-- Row `a`, column `b` of an `n`-row, `k`-column array. -/
def at2 {n k : ℕ} (a : Fin n) (b : Fin k) : (⟨2, ![n, k]⟩ : Shape).Idx := fun | 0 => a | 1 => b
/-- Place `a` of a list of `n`. -/
def at1 {n : ℕ} (a : Fin n) : (⟨1, ![n]⟩ : Shape).Idx := fun | 0 => a

/-- The labels as the tiles read them: the program's `[64, 1]` argument as a list of 64. -/
def labs (d : Dev nD) : S64.Idx → BitVec 32 := fun j => m (lLoc d) (at2 (n := 64) (k := 1) (j 0) 0)

/-- A word as a row of a table of 1000 rows (its own value when it is one, as a label is). -/
def rowOf (v : BitVec 32) : Fin 1000 := ⟨v.toNat % 1000, Nat.mod_lt _ (by omega)⟩

/-- The rows of `t` the labels `l` name, in order. -/
def lookup (t : S1000x768.Idx → Elt F .f32) (l : S64.Idx → BitVec 32) : S64x768.Idx → Elt F .f32 :=
  fun j => t (at2 (n := 1000) (k := 768) (rowOf (l (at1 (n := 64) (j 0)))) (j 1))

/-- What the proof asks of the launch memory: every label is a row of the tables. -/
def PreOK : Prop := ∀ (d : Dev nD) (j : S64.Idx), (labs m d j).toNat < 1000

/-! ## What the call carries -/

/-- Tile `w`'s rows of the gamma result: eight of them below tile 8, none from there. -/
def gSet (w : Fin 32) : Finset S64x768.Idx := Finset.univ.filter fun j => (j 0).val / 8 = w.val
/-- Tile `w`'s rows of the beta result: eight of them at tiles 8 to 15, none elsewhere. -/
def bSet (w : Fin 32) : Finset S64x768.Idx := Finset.univ.filter fun j => (j 0).val / 8 + 8 = w.val

/-- Tile `w`'s read share. -/
def shr (w : Fin 32) : PosShare TreeShare := pieceOf fullShare 32 (by omega) w

/-- The number of the tile on SparseCore `c`, subcore `i`. -/
def wid (c : Fin 2) (i : Fin 16) : Fin 32 := ⟨2 * i.val + c.val, by omega⟩

/-- What tile `w` holds of the call's arrays, the results' rows at `g` and `b`. -/
def tilePts (d : Dev nD) (g b : S64x768.Idx → Elt F .f32) (w : Fin 32) : sProp 𝕄 :=
  iprop((gamLoc d ↦{shr w} m (gamLoc d)) ∗ (betLoc d ↦{shr w} m (betLoc d)) ∗ (labLoc d ↦{shr w} labs m d)
    ∗ (gLoc d ↦[gSet w]{fullShare} g) ∗ (bLoc d ↦[bSet w]{fullShare} b))

instance tilePts_storable (d : Dev nD) (g b : S64x768.Idx → Elt F .f32) (w : Fin 32) :
    BI.Storable (upEmb : UEmb _ 𝕄) (tilePts m d g b w) := by unfold tilePts; infer_instance

/-- The gathered rows of the two tables. -/
def gVal (d : Dev nD) : S64x768.Idx → Elt F .f32 := lookup (m (gamLoc d)) (labs m d)
def bVal (d : Dev nD) : S64x768.Idx → Elt F .f32 := lookup (m (betLoc d)) (labs m d)

/-- Every tile's holding before its task, and after. -/
def goW (d : Dev nD) (w : Fin 32) : sProp 𝕄 := tilePts m d (m (gLoc d)) (m (bLoc d)) w
def tdW (d : Dev nD) (w : Fin 32) : sProp 𝕄 := tilePts m d (gVal m d) (bVal m d) w

instance (d : Dev nD) (w : Fin 32) : BI.Storable (upEmb : UEmb _ 𝕄) (goW m d w) := by unfold goW; infer_instance
instance (d : Dev nD) (w : Fin 32) : BI.Storable (upEmb : UEmb _ 𝕄) (tdW m d w) := by unfold tdW; infer_instance

/-- The number of the tile the launch names by its call's core and subcore. -/
abbrev widK (c : Fin ((K (F := F)).nCore 0)) (i : Fin ((K (F := F)).nSub 0)) : Fin 32 := wid (Fin.cast nCore_zero c) (Fin.cast nSub_zero i)

/-- A SparseCore is handed its sixteen tiles' holdings and hands them back. -/
def P : (K (F := F)).Pay (nD := nD) (Val := Elt F) (Name := ℕ) (U := UU) where
  st := fun q d c => match q with | 0 => bigSep Finset.univ fun i : Fin ((K (F := F)).nSub 0) => goW m d (widK c i)
  dn := fun q d c => match q with | 0 => bigSep Finset.univ fun i : Fin ((K (F := F)).nSub 0) => tdW m d (widK c i)
  go := fun q d c i => match q with | 0 => goW m d (widK c i)
  td := fun q d c i => match q with | 0 => tdW m d (widK c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goW m d (widK c i)))
  dn q d c := match q with
    | 0 => (inferInstance : BI.Storable (upEmb : UEmb _ 𝕄) (bigSep Finset.univ fun i : Fin ((K (F := F)).nSub 0) => tdW m d (widK c i)))
  go q d c i := match q with | 0 => (inferInstance : BI.Storable (upEmb : UEmb _ 𝕄) (goW m d (widK c i)))
  td q d c i := match q with | 0 => (inferInstance : BI.Storable (upEmb : UEmb _ 𝕄) (tdW m d (widK c i)))

/-- A SparseCore's operands are its tiles', its results theirs. -/
theorem vecSplit : (K (F := F)).VecSplit' (P m) 0 := by
  intro d c
  change (bigSep Finset.univ fun i : Fin ((K (F := F)).nSub 0) => goW m d (widK c i)) ⊢ |={Set.univ}=> iprop(
    (bigSep Finset.univ fun i : Fin ((K (F := F)).nSub 0) => goW m d (widK c i))
      ∗ ((bigSep Finset.univ fun i : Fin ((K (F := F)).nSub 0) => tdW m d (widK c i))
          -∗ bigSep Finset.univ fun i : Fin ((K (F := F)).nSub 0) => tdW m d (widK c i)))
  iintro H; imodintro
  isplitl [H]; · iexact H
  iintro H; iexact H

end Cert.Proof.Scale

end
-- ==== Proof.Split.lean ====
/-
  The five arrays of the SparseCore call as the thirty-two tiles' holdings: the tables and the labels in thirty-two read
  shares, each result array in the tiles' rows.
-/
module

public import proofs.«01_k».proof.Proof.Setup

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The tiles' rows -/

theorem gSet_disjoint : ∀ w ∈ (Finset.univ : Finset (Fin 32)), ∀ w' ∈ (Finset.univ : Finset (Fin 32)), w ≠ w' → Disjoint (gSet w) (gSet w') := by
  intro w _ w' _ h
  refine Finset.disjoint_left.2 fun j hj hj' => h (Fin.ext ?_)
  exact (Finset.mem_filter.1 hj).2.symm.trans (Finset.mem_filter.1 hj').2
theorem bSet_disjoint : ∀ w ∈ (Finset.univ : Finset (Fin 32)), ∀ w' ∈ (Finset.univ : Finset (Fin 32)), w ≠ w' → Disjoint (bSet w) (bSet w') := by
  intro w _ w' _ h
  refine Finset.disjoint_left.2 fun j hj hj' => h (Fin.ext ?_)
  exact (Finset.mem_filter.1 hj).2.symm.trans (Finset.mem_filter.1 hj').2

theorem row_lt (j : S64x768.Idx) : (j 0).val < 64 := (j 0).isLt

theorem gSet_cover : (Finset.univ : Finset (Fin 32)).biUnion gSet = Finset.univ := by
  refine Finset.eq_univ_iff_forall.2 fun j => Finset.mem_biUnion.2 ⟨⟨(j 0).val / 8, ?_⟩, Finset.mem_univ _, Finset.mem_filter.2 ⟨Finset.mem_univ _, rfl⟩⟩
  have := row_lt j; omega
theorem bSet_cover : (Finset.univ : Finset (Fin 32)).biUnion bSet = Finset.univ := by
  refine Finset.eq_univ_iff_forall.2 fun j => Finset.mem_biUnion.2 ⟨⟨(j 0).val / 8 + 8, ?_⟩, Finset.mem_univ _, Finset.mem_filter.2 ⟨Finset.mem_univ _, rfl⟩⟩
  have := row_lt j; omega

/-- A gamma result held whole is held row by row of tiles, -/
theorem gPts_rows (d : Dev nD) (g : S64x768.Idx → Elt F .f32) :
    (gLoc d ↦{fullShare} g : sProp 𝕄) = bigSep Finset.univ fun w : Fin 32 => gLoc d ↦[gSet w]{fullShare} g := by
  rw [← pointsTo_biUnion Finset.univ (ℓ := gLoc d) gSet gSet_disjoint, gSet_cover]; try rfl
/-- a beta result likewise. -/
theorem bPts_rows (d : Dev nD) (b : S64x768.Idx → Elt F .f32) :
    (bLoc d ↦{fullShare} b : sProp 𝕄) = bigSep Finset.univ fun w : Fin 32 => bLoc d ↦[bSet w]{fullShare} b := by
  rw [← pointsTo_biUnion Finset.univ (ℓ := bLoc d) bSet bSet_disjoint, bSet_cover]; try rfl

/-- Any array held whole is held in the tiles' thirty-two shares. -/
theorem pts_shares (ℓ : Loc nD τ sig) (f : Buf (Elt F) ℓ) :
    (ℓ ↦{fullShare} f : sProp 𝕄) = bigSep Finset.univ fun w : Fin 32 => ℓ ↦{shr w} f :=
  pointsTo_piecesOf Finset.univ f (by omega) fullShare

/-! ## The tiles, numbered -/

/-- Core and subcore against the tile's number. -/
def tileEquiv : Fin 2 × Fin 16 ≃ Fin 32 where
  toFun p := wid p.1 p.2
  invFun w := (⟨w.val % 2, by omega⟩, ⟨w.val / 2, by omega⟩)
  left_inv p := by
    obtain ⟨⟨c, hc⟩, ⟨i, hi⟩⟩ := p
    refine Prod.ext (Fin.ext ?_) (Fin.ext ?_)
    · show (2 * i + c) % 2 = c; omega
    · show (2 * i + c) / 2 = i; omega
  right_inv w := Fin.ext (by show 2 * (w.val / 2) + w.val % 2 = w.val; omega)

/-- Over the call's cores and subcores, over the tiles. -/
theorem bigSep_tiles (Φ : Fin 32 → sProp 𝕄) :
    (bigSep Finset.univ fun c : Fin ((K (F := F)).nCore 0) => bigSep Finset.univ fun i : Fin ((K (F := F)).nSub 0) => Φ (widK c i))
      = bigSep Finset.univ Φ := by
  rw [bigSep_univ_equiv tileEquiv Φ, bigSep_univ_prod]
  rfl

/-- The call's arrays, the results at `g` and `b`. -/
def callPts (d : Dev nD) (g b : S64x768.Idx → Elt F .f32) : sProp 𝕄 :=
  iprop((gamLoc d ↦{fullShare} m (gamLoc d)) ∗ (betLoc d ↦{fullShare} m (betLoc d)) ∗ (labLoc d ↦{fullShare} labs m d)
    ∗ (gLoc d ↦{fullShare} g) ∗ (bLoc d ↦{fullShare} b))

theorem callPts_tiles (d : Dev nD) (g b : S64x768.Idx → Elt F .f32) :
    (callPts m d g b : sProp 𝕄) = bigSep Finset.univ fun w : Fin 32 => tilePts m d g b w := by
  unfold callPts tilePts
  rw [bigSep_sep', bigSep_sep', bigSep_sep', bigSep_sep', pts_shares (gamLoc d), pts_shares (betLoc d), pts_shares (labLoc d), gPts_rows, bPts_rows]

/-- What the call is handed, -/
theorem st_eq (d : Dev nD) :
    (bigSep Finset.univ fun c : Fin ((K (F := F)).nCore 0) => (P m).st 0 d c) = callPts m d (m (gLoc d)) (m (bLoc d)) :=
  (bigSep_tiles (goW m d)).trans (callPts_tiles m d _ _).symm
/-- and what it hands back. -/
theorem dn_eq (d : Dev nD) :
    (bigSep Finset.univ fun c : Fin ((K (F := F)).nCore 0) => (P m).dn 0 d c) = callPts m d (gVal m d) (bVal m d) :=
  (bigSep_tiles (tdW m d)).trans (callPts_tiles m d _ _).symm

end Cert.Proof.Scale

end
-- ==== Proof.Cols.lean ====
/-
  One block of 128 columns: a tile gathers, from a table of 1000 rows of 768, the columns `n` to `n + 127` of the rows
  its list of eight labels names, into the same columns of its row scratch. Six of these fill the scratch; what is
  proved is kept by the step "every column below `n` holds its table's value".
-/
module

public import proofs.«01_k».proof.Proof.Setup

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile's list of labels, and its scratch of eight rows. -/
abbrev lstM : Memref sig .scVector .vmem S8 .i32 := Memref.whole cc0_scratch0
abbrev rowM : Memref sig .scVector .vmem S8x768 .f32 := Memref.whole cc0_scratch1

/-! ## The block's coordinates -/

/-- The block of columns from `n` of the table and of the scratch. -/
abbrev tRect (n : ℕ) (h : ∀ a, (![0, n] : Fin 2 → ℕ) a + S1000x128.size a ≤ S1000x768.size a) : Rect S1000x768 :=
  Rect.unit (s := S1000x768) ![0, n] S1000x128.size h
abbrev rRect (n : ℕ) (h : ∀ a, (![0, n] : Fin 2 → ℕ) a + S8x128.size a ≤ S8x768.size a) : Rect S8x768 :=
  Rect.unit (s := S8x768) ![0, n] S8x128.size h

/-- The rows a list of labels names in a table read through `tb`. -/
def namedRows (tb : Memref sig .scVector .hbm S1000x768 .f32) (ft : tb.view.ty.Contents (Elt F)) (fo : S8.Idx → BitVec 32) :
    S8x768.Idx → Elt F .f32 :=
  fun j => tb.view.read (Elt F) ft (at2 (n := 1000) (k := 768) (rowOf (fo (at1 (n := 8) (j 0)))) (j 1))

omit [FloatOps F] in
theorem at2_eta {n k : ℕ} (j : (⟨2, ![n, k]⟩ : Shape).Idx) : at2 (n := n) (k := k) (j 0) (j 1) = j := by
  funext a; match a with | 0 => rfl | 1 => rfl

omit [FloatOps F] in
theorem at1_eta {n : ℕ} (j : (⟨1, ![n]⟩ : Shape).Idx) : at1 (n := n) (j 0) = j := by
  funext a; match a with | 0 => rfl

/-- Entry `k` of the list is read at place `k`. -/
theorem list_place (k : Fin (S8x128.size gathers_S1000x128_S8x128.axis')) (hn : S8.numel = S8x128.size gathers_S1000x128_S8x128.axis') :
    S8.rowMajor.symm (k.cast hn.symm) = at1 (n := 8) ⟨k.val, k.isLt⟩ := by
  refine (Equiv.symm_apply_eq _).mpr (Fin.ext ?_)
  simp only [Shape.rowMajor_val_one, at1]
  rfl

/-- A named row that is one of the table's is the word itself. -/
theorem rowOf_val {v : BitVec 32} (h : v.toNat < 1000) : (rowOf v).val = v.toNat := Nat.mod_eq_of_lt h

/-- What a block's gather delivers at its row `x 0`, column `x 1`: the table's named row, column `n + x 1`. -/
theorem payload_block (tb : Memref sig .scVector .hbm S1000x768 .f32) (ft : tb.view.ty.Contents (Elt F)) (fo : S8.Idx → BitVec 32)
    (n : ℕ) (ht) (hr) (hn : S8.numel = S8x128.size gathers_S1000x128_S8x128.axis') (hin : ∀ x, (fo x).toNat < S1000x128.size gathers_S1000x128_S8x128.axis)
    (x : S8x128.Idx) :
    SparseCore.gatherPayload gathers_S1000x128_S8x128 ((tb.view.slice (tRect n ht)).read (Elt F) ft) (SparseCore.rows (F := F) fo hn hin) x
      = namedRows tb ft fo ((rRect n hr).emb x) := by
  show tb.view.read (Elt F) ft ((tRect n ht).emb (gathers_S1000x128_S8x128.idx (SparseCore.rows (F := F) fo hn hin) x)) = _
  unfold namedRows
  congr 1
  have h0 : gathers_S1000x128_S8x128.idx (SparseCore.rows (F := F) fo hn hin) x 0 = SparseCore.rows (F := F) fo hn hin (x 0) :=
    gathers_S1000x128_S8x128.idx_axis _ x
  have h1 : (gathers_S1000x128_S8x128.idx (SparseCore.rows (F := F) fo hn hin) x 1).val = (x 1).val :=
    gathers_S1000x128_S8x128.idx_of_ne _ x 1 (by decide)
  have hw : (SparseCore.rows (F := F) fo hn hin (x 0)).val = (fo (at1 (n := 8) (x 0))).toNat := by
    show (fo (S8.rowMajor.symm ((x 0).cast hn.symm))).toNat = _
    rw [list_place _ hn]; rfl
  funext a
  apply Fin.ext
  match a with
  | 0 =>
    rw [Rect.emb_apply, h0]
    show 0 + 1 * (SparseCore.rows (F := F) fo hn hin (x 0)).val = (rowOf (fo (at1 (n := 8) ((rRect n hr).emb x 0)))).val
    have he : (rRect n hr).emb x 0 = x 0 := Fin.ext (by rw [Rect.emb_apply]; show 0 + 1 * (x 0).val = (x 0).val; omega)
    rw [he, rowOf_val (hin _), hw]; omega
  | 1 =>
    rw [Rect.emb_apply, h1]
    show n + 1 * (x 1).val = ((rRect n hr).emb x 1).val
    rw [Rect.emb_apply]; rfl

/-- A gather of the block from `n` into a scratch right below column `n` leaves it right below `n + 128`. -/
theorem block_extends (tb : Memref sig .scVector .hbm S1000x768 .f32) (ft : tb.view.ty.Contents (Elt F)) (fo : S8.Idx → BitVec 32)
    (n : ℕ) (ht) (hr) (hn : S8.numel = S8x128.size gathers_S1000x128_S8x128.axis') (hin : ∀ x, (fo x).toNat < S1000x128.size gathers_S1000x128_S8x128.axis)
    (fr : S8x768.Idx → Elt F .f32) (h : ∀ j : S8x768.Idx, (j 1).val < n → fr j = namedRows tb ft fo j) (j : S8x768.Idx) (hj : (j 1).val < n + 128) :
    (rowM.view.slice (rRect n hr)).write (Elt F) fr
        (SparseCore.gatherPayload gathers_S1000x128_S8x128 ((tb.view.slice (tRect n ht)).read (Elt F) ft) (SparseCore.rows (F := F) fo hn hin)) Finset.univ j
      = namedRows tb ft fo j := by
  change rowM.view.read (Elt F) ((rowM.view.slice (rRect n hr)).write (Elt F) fr _ Finset.univ) j = _
  by_cases hlt : (j 1).val < n
  · rw [View.read_slice_write_of_not_mem]
    · exact h j hlt
    · intro hm
      obtain ⟨x, -, hx⟩ := Finset.mem_map.mp hm
      have := congrArg (fun y : S8x768.Idx => (y 1).val) hx
      simp only [Rect.emb_apply] at this
      have h2 : n + 1 * (x 1).val = (j 1).val := this
      omega
  · have hx : (rRect n hr).emb (fun | 0 => j 0 | 1 => (⟨(j 1).val - n, by omega⟩ : Fin 128) : S8x128.Idx) = j := by
      funext a; apply Fin.ext
      match a with
      | 0 => rw [Rect.emb_apply]; show 0 + 1 * (j 0).val = (j 0).val; omega
      | 1 => rw [Rect.emb_apply]; show n + 1 * ((j 1).val - n) = (j 1).val; omega
    rw [← hx, View.read_slice_write_emb (M := Finset.univ) (h := Finset.mem_univ _), payload_block]

/-! ## The block's gather, run -/

abbrev cV (L : grid0.Coords) : Fin τ.nSC := (L 0).castLE hcore0
abbrev jV (L : grid0.Coords) : Fin τ.nSub := (L 1).castLE hsub0
/-- The thread of the tile at `L` of device `d`. -/
abbrev VT (d : Dev nD) (L : grid0.Coords) : Thread nD τ := V d (cV L) (jV L)

/-- The block of the table and of the scratch, as the tile addresses them. -/
abbrev tBlk (tb : Memref sig .scVector .hbm S1000x768 .f32) (n : ℕ)
    (ht : ∀ a, (![0, n] : Fin 2 → ℕ) a + S1000x128.size a ≤ S1000x768.size a) : Memref sig .scVector .hbm S1000x128 .f32 :=
  tb.slice (tRect n ht) (fun _ => rfl)
abbrev rBlk (n : ℕ) (hr : ∀ a, (![0, n] : Fin 2 → ℕ) a + S8x128.size a ≤ S8x768.size a) : Memref sig .scVector .vmem S8x128 .f32 :=
  rowM.slice (rRect n hr) (fun _ => rfl)

/-- The program of one block: the gather, and the wait for it. -/
def blockProg (L : grid0.Coords) (tb : Memref sig .scVector .hbm S1000x768 .f32) (n : ℕ)
    (ht : ∀ a, (![0, n] : Fin 2 → ℕ) a + S1000x128.size a ≤ S1000x768.size a)
    (hr : ∀ a, (![0, n] : Fin 2 → ℕ) a + S8x128.size a ≤ S8x768.size a) :
    Prog (TpuEff nD τ sig (Elt F) Λ₀ (.scVector (cV L) (jV L))) PUnit :=
  SparseCore.enqueueIndirectGather rfl (tBlk tb n ht) (rBlk n hr)
      gathers_S1000x128_S8x128 lstM rfl cc0_scratch2.sem (View.wordExact_bits rfl) rfl (Or.inl rfl) >>= fun _ =>
    SparseCore.waitIndirectGather cc0_scratch2.sem (tBlk tb n ht) (rBlk n hr)
      (View.wordExact_bits rfl) (View.wordExact_bits rfl)

/-- Between blocks: the scratch right below column `n`, the table's share, the list, the stream's cell at zero, and the
    waits so far all local. -/
def blockInv (d : Dev nD) (L : grid0.Coords) (tb : Memref sig .scVector .hbm S1000x768 .f32) (q : PosShare TreeShare)
    (ft : Buf (Elt F) (tb.view.loc (VT d L))) (fo : S8.Idx → BitVec 32) (O : CellTallies nD τ sig (HIx 1)) (W : Waits sig (HIx 1)) (n : ℕ) : sProp 𝕄 :=
  iprop(∃ fr : S8x768.Idx → Elt F .f32, ∃ W' : Waits sig (HIx 1), ⌜∀ j : S8x768.Idx, (j 1).val < n → fr j = namedRows tb ft fo j⌝
    ∗ ⌜∀ p ∈ W', p ∈ W ∨ p.2 = none⌝
    ∗ (tb.view.loc (VT d L) ↦{q} ft) ∗ ((VT d L).loc cc0_scratch1 ↦{fullShare} fr) ∗ ((VT d L).loc cc0_scratch0 ↦{fullShare} fo)
    ∗ semVal (VT d L, SemLoc.dma cc0_scratch2.sem) 0 ∗ owes (VT d L) O W')

theorem block_run (d : Dev nD) (L : grid0.Coords) (tb : Memref sig .scVector .hbm S1000x768 .f32) (q : PosShare TreeShare)
    (ft : Buf (Elt F) (tb.view.loc (VT d L))) (fo : S8.Idx → BitVec 32) (hin : ∀ x, (fo x).toNat < 1000)
    (O : CellTallies nD τ sig (HIx 1)) (W : Waits sig (HIx 1)) (n : ℕ) (ht) (hr) :
    iprop(Transfers.MayWaits (VT d L) (none : HIx 1) O ∗ blockInv d L tb q ft fo O W n)
      ⊢ wp frame (wpE (defs₀ (F := F)) 𝒱₀ (VT d L) none) Set.univ (blockProg L tb n ht hr)
          fun _ => blockInv d L tb q ft fo O W (n + 128) := by
  unfold blockProg blockInv
  iintro ⟨#Hmw, %fr, %W', %hfr, %hW', Ht, Hr, Hl, Hv, HO⟩
  have hN : ∀ h : S1000x128.Gathers 0 S8x128, ∑ j, ((rBlk n hr).slice (S8x128.rowRect h.axis' j) (S8x128.stride_rowRect h.axis' j)).view.dmaCredit
      = (rBlk n hr).view.dmaCredit :=
    show ∀ h : S1000x128.Gathers 0 S8x128, ∑ j, (cc0_scratch1 : Ref sig .scVector).dmaCredit (S8x128.rowRect h.axis' j).shape .f32
      = (cc0_scratch1 : Ref sig .scVector).dmaCredit S8x128 .f32 from by decide
  iapply (SparseCore.wp_gatherFromWhole countersEmb 𝒱₀ (VT d L) none (hg := gathers_S1000x128_S8x128) (none : HIx 1) (rBlk n hr).view.dmaCredit (hN _) (by decide)
    (show ∀ x, (lstM.view.read (Elt F) fo x).toNat < S1000x128.size gathers_S1000x128_S8x128.axis from hin)) $$ [Ht Hr Hl Hv]
  · isplitl [Ht]; · iexact Ht
    isplitl [Hr]; · iexact Hr
    isplitl [Hl]; · iexact Hl
    iexact Hv
  iintro Hfl
  unfold SparseCore.waitIndirectGather
  iapply (Transfers.wp_waitLocalO countersEmb 𝒱₀ (VT d L) none (none : HIx 1) (rfl : (rBlk n hr).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht, Hl⟩, Hv, HO⟩
  sl_step
  iexists ((rBlk n hr).view.write (Elt F) fr (SparseCore.gatherPayload gathers_S1000x128_S8x128 ((tBlk tb n ht).view.read (Elt F) ft)
    (SparseCore.rows (F := F) (lstM.view.read (Elt F) fo) rfl hin)) Finset.univ)
  iexists (insert (SemLoc.dma cc0_scratch2.sem, (none : HIx 1)) W')
  isplitr; · ipureintro; exact fun j hj => block_extends tb ft fo n ht hr rfl hin fr hfr j hj
  isplitr
  · ipureintro; intro p hp
    rcases Finset.mem_insert.mp hp with hp | hp; · exact .inr (hp ▸ rfl)
    exact hW' p hp
  isplitl [Ht]; · iexact Ht
  isplitl [Hr]; · iexact Hr
  isplitl [Hl]; · iexact Hl
  isplitl [Hv]; · iexact Hv
  iexact HO

end Cert.Proof.Scale

end
-- ==== Proof.Branch.lean ====
/-
  One tile's task against one table: fetch eight labels, gather the six blocks of columns of the rows they name, copy
  the scratch out. The two branches of the kernel (gamma's, beta's) are this program at their own table and result.
-/
module

public import proofs.«01_k».proof.Proof.Cols

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The labels, as a tile addresses them. -/
abbrev labM : Memref sig .scVector .hbm S64 .i32 := Memref.whole main_v0_scv

/-- The eight labels a tile fetches, and the eight rows of a result it writes. -/
abbrev lRect (lo : Fin 1 → ℕ) (hlo : ∀ a, lo a + S8.size a ≤ S64.size a) : Rect S64 := Rect.unit (s := S64) lo S8.size hlo
abbrev oRect (oo : Fin 2 → ℕ) (hoo : ∀ a, oo a + S8x768.size a ≤ S64x768.size a) : Rect S64x768 := Rect.unit (s := S64x768) oo S8x768.size hoo
abbrev lPart (lo : Fin 1 → ℕ) (hlo : ∀ a, lo a + S8.size a ≤ S64.size a) : Memref sig .scVector .hbm S8 .i32 :=
  labM.slice (lRect lo hlo) (fun _ => rfl)
abbrev oPart (out : Memref sig .scVector .hbm S64x768 .f32) (oo : Fin 2 → ℕ) (hoo : ∀ a, oo a + S8x768.size a ≤ S64x768.size a) :
    Memref sig .scVector .hbm S8x768 .f32 := out.slice (oRect oo hoo) (fun _ => rfl)

/-- The six blocks in order. -/
def sixBlocks (L : grid0.Coords) (tb : Memref sig .scVector .hbm S1000x768 .f32) :
    Prog (TpuEff nD τ sig (Elt F) Λ₀ (.scVector (cV L) (jV L))) PUnit :=
  blockProg L tb 0 inb_S1000x768_S1000x128_0_0 inb_S8x768_S8x128_0_0 >>= fun _ =>
  blockProg L tb 128 inb_S1000x768_S1000x128_0_128 inb_S8x768_S8x128_0_128 >>= fun _ =>
  blockProg L tb 256 inb_S1000x768_S1000x128_0_256 inb_S8x768_S8x128_0_256 >>= fun _ =>
  blockProg L tb 384 inb_S1000x768_S1000x128_0_384 inb_S8x768_S8x128_0_384 >>= fun _ =>
  blockProg L tb 512 inb_S1000x768_S1000x128_0_512 inb_S8x768_S8x128_0_512 >>= fun _ =>
  blockProg L tb 640 inb_S1000x768_S1000x128_0_640 inb_S8x768_S8x128_0_640

/-- The task against the table `tb`, its rows copied to `out`. -/
def taskProg (L : grid0.Coords) (tb : Memref sig .scVector .hbm S1000x768 .f32) (out : Memref sig .scVector .hbm S64x768 .f32)
    (lo : Fin 1 → ℕ) (hlo : ∀ a, lo a + S8.size a ≤ S64.size a) (oo : Fin 2 → ℕ) (hoo : ∀ a, oo a + S8x768.size a ≤ S64x768.size a)
    (s₁ s₂ : DmaSem sig) : Prog (TpuEff nD τ sig (Elt F) Λ₀ (.scVector (cV L) (jV L))) PUnit := do
  Prog.lift (.enqueueDma (lPart lo hlo) (.here lstM) (.dma s₁) (View.wordExact_bits rfl) (Memref.isWhole_whole _).wordExact ⟨Or.inl rfl, trivial⟩)
  Prog.lift (.waitDma2 s₁ (lPart lo hlo) lstM (View.wordExact_bits rfl) (Memref.isWhole_whole _).wordExact)
  sixBlocks L tb
  Prog.lift (.enqueueDma rowM (.here (oPart out oo hoo)) (.dma s₂) (Memref.isWhole_whole _).wordExact (View.wordExact_bits rfl) ⟨Or.inl rfl, trivial⟩)
  Prog.lift (.waitDma2 s₂ rowM (oPart out oo hoo) (Memref.isWhole_whole _).wordExact (View.wordExact_bits rfl))
  pure ⟨⟩

/-- A program's triple, used before the rest of the program. -/
theorem run_then {c : Thread nD τ} {p : Prog (TpuEff nD τ sig (Elt F) Λ₀ c.2) PUnit} {k : PUnit → Prog (TpuEff nD τ sig (Elt F) Λ₀ c.2) PUnit}
    {A B : sProp 𝕄} {Q : PUnit → sProp 𝕄}
    (h : A ⊢ wp frame (wpE (defs₀ (F := F)) 𝒱₀ c none) Set.univ p fun _ => B) :
    A ⊢ iprop((B -∗ wp frame (wpE (defs₀ (F := F)) 𝒱₀ c none) Set.univ (k ⟨⟩) Q)
      -∗ wp frame (wpE (defs₀ (F := F)) 𝒱₀ c none) Set.univ (p >>= k) Q) := by
  rw [wp_bind]
  iintro HA Hk
  ihave Hw := h $$ HA
  iapply (wp_wand_r _ _ _)
  isplitl [Hw]; · iexact Hw
  iintro %a HB
  iapply Hk; iexact HB

/-- All six blocks: the scratch holds the named rows. -/
theorem sixBlocks_run (d : Dev nD) (L : grid0.Coords) (tb : Memref sig .scVector .hbm S1000x768 .f32) (q : PosShare TreeShare)
    (ft : Buf (Elt F) (tb.view.loc (VT d L))) (fo : S8.Idx → BitVec 32) (hin : ∀ x, (fo x).toNat < 1000)
    (O : CellTallies nD τ sig (HIx 1)) (W : Waits sig (HIx 1)) :
    iprop(Transfers.MayWaits (VT d L) (none : HIx 1) O ∗ blockInv d L tb q ft fo O W 0)
      ⊢ wp frame (wpE (defs₀ (F := F)) 𝒱₀ (VT d L) none) Set.univ (sixBlocks L tb)
          fun _ => blockInv d L tb q ft fo O W 768 := by
  unfold sixBlocks
  iintro ⟨#Hmw, H⟩
  iapply (run_then (block_run d L tb q ft fo hin O W 0 _ _)) $$ [H]; · iframe Hmw H
  iintro H
  iapply (run_then (block_run d L tb q ft fo hin O W 128 _ _)) $$ [H]; · iframe Hmw H
  iintro H
  iapply (run_then (block_run d L tb q ft fo hin O W 256 _ _)) $$ [H]; · iframe Hmw H
  iintro H
  iapply (run_then (block_run d L tb q ft fo hin O W 384 _ _)) $$ [H]; · iframe Hmw H
  iintro H
  iapply (run_then (block_run d L tb q ft fo hin O W 512 _ _)) $$ [H]; · iframe Hmw H
  iintro H
  iapply (block_run d L tb q ft fo hin O W 640 _ _); iframe Hmw H

/-- The labels a tile's fetch lands. -/
def fetched (l : S64.Idx → BitVec 32) (lo : Fin 1 → ℕ) (hlo : ∀ a, lo a + S8.size a ≤ S64.size a) : S8.Idx → BitVec 32 :=
  fun x => l ((lRect lo hlo).emb x)

/-- What the tile's two scratch buffers and its own cells are before and after. -/
def scratch (d : Dev nD) (L : grid0.Coords) : sProp 𝕄 :=
  iprop((∃ f, (VT d L).loc cc0_scratch0 ↦{fullShare} f) ∗ (∃ f, (VT d L).loc cc0_scratch1 ↦{fullShare} f))

omit [FloatOps F] in
/-- The list scratch after the fetch holds the fetched labels. -/
theorem fetched_pts (d : Dev nD) (L : grid0.Coords) (l : S64.Idx → BitVec 32) (lo : Fin 1 → ℕ) (hlo)
    (fs : Buf (Elt F) (lstM.view.loc (VT d L))) :
    ((lstM.view.loc (VT d L) ↦[Finset.univ]{fullShare} lstM.view.write (Elt F) fs
        ((ReadAs.same : ReadAs (Elt F) S8 .i32 S8 .i32).apply ((lPart lo hlo).view.read (Elt F) l)) Finset.univ) : sProp 𝕄)
      = ((VT d L).loc cc0_scratch0 ↦{fullShare} fetched l lo hlo) := by
  rw [View.write_whole_univ]; rfl

/-- Eight rows of a result are something to copy. -/
theorem credit_pos (out : Memref sig .scVector .hbm S64x768 .f32) (oo : Fin 2 → ℕ) (hoo) : 0 < (oPart out oo hoo).view.dmaCredit :=
  View.dmaCredit_pos _ (by decide)

theorem task_run (d : Dev nD) (L : grid0.Coords) (tb : Memref sig .scVector .hbm S1000x768 .f32) (out : Memref sig .scVector .hbm S64x768 .f32)
    (lo : Fin 1 → ℕ) (hlo) (oo : Fin 2 → ℕ) (hoo) (s₁ s₂ : DmaSem sig) (q : PosShare TreeShare)
    (ft : Buf (Elt F) (tb.view.loc (VT d L))) (l : S64.Idx → BitVec 32) (hl : ∀ x, (l x).toNat < 1000)
    (fd : Buf (Elt F) (out.view.loc (VT d L)))
    (O : CellTallies nD τ sig (HIx 1)) (W : Waits sig (HIx 1)) :
    iprop(Transfers.MayWaits (VT d L) (none : HIx 1) O
        ∗ ((tb.view.loc (VT d L) ↦{q} ft) ∗ (labM.view.loc (VT d L) ↦{q} l) ∗ (out.view.loc (VT d L) ↦[(oPart out oo hoo).view.set]{fullShare} fd))
        ∗ scratch d L
        ∗ (semVal (VT d L, SemLoc.dma cc0_scratch2.sem) 0 ∗ semVal (VT d L, SemLoc.dma s₁) 0 ∗ semVal (VT d L, SemLoc.dma s₂) 0)
        ∗ owes (VT d L) O W)
      ⊢ wp frame (wpE (defs₀ (F := F)) 𝒱₀ (VT d L) none) Set.univ (taskProg L tb out lo hlo oo hoo s₁ s₂) fun _ =>
          iprop(((tb.view.loc (VT d L) ↦{q} ft) ∗ (labM.view.loc (VT d L) ↦{q} l)
              ∗ (out.view.loc (VT d L) ↦[(oPart out oo hoo).view.set]{fullShare}
                  (oPart out oo hoo).view.write (Elt F) fd (namedRows tb ft (fetched l lo hlo)) Finset.univ))
            ∗ scratch d L
            ∗ (semVal (VT d L, SemLoc.dma cc0_scratch2.sem) 0 ∗ semVal (VT d L, SemLoc.dma s₁) 0 ∗ semVal (VT d L, SemLoc.dma s₂) 0)
            ∗ ∃ W' : Waits sig (HIx 1), ⌜∀ p ∈ W', p ∈ W ∨ p.2 = none⌝ ∗ owes (VT d L) O W') := by
  unfold taskProg scratch
  iintro ⟨#Hmw, ⟨Ht, Hl, Ho⟩, ⟨⟨%fs, Hs⟩, ⟨%fr, Hr⟩⟩, ⟨Hv, Hv1, Hv2⟩, HO⟩
  iapply (Transfers.wp_dmaFromWhole countersEmb 𝒱₀ (VT d L) none (none : HIx 1) lstM.view.dmaCredit rfl (by decide) (Finset.subset_univ lstM.view.set)) $$ [Hl Hs Hv1]
  · isplitl [Hl]; · iexact Hl
    isplitl [Hs]; · iexact Hs
    iexact Hv1
  iintro Hfl
  iapply (Transfers.wp_waitLocalO countersEmb 𝒱₀ (VT d L) none (none : HIx 1) (rfl : lstM.view.dmaCredit = _)) $$ [Hfl HO]
  · isplitl [Hfl]; · iexact Hfl
    isplitl [HO]; · iexact HO
    iapply (Transfers.MayWaits.elim (SemLoc.dma s₁)) $$ Hmw
  iintro ⟨⟨Hs, Hl⟩, Hv1, HO⟩
  iapply (run_then (sixBlocks_run d L tb q ft (fetched l lo hlo) (fun x => hl _) O (insert (SemLoc.dma s₁, (none : HIx 1)) W))) $$ [Ht Hs Hr Hv HO]
  · isplitr; · iexact Hmw
    unfold blockInv
    iexists fr, (insert (SemLoc.dma s₁, (none : HIx 1)) W)
    isplitr; · ipureintro; exact fun j hj => absurd hj (Nat.not_lt_zero _)
    isplitr; · ipureintro; exact fun p hp => .inl hp
    isplitl [Ht]; · iexact Ht
    isplitl [Hr]; · iexact Hr
    isplitl [Hs]
    · iapply (Entails.of_eq (fetched_pts d L l lo hlo fs)); iexact Hs
    isplitl [Hv]; · iexact Hv
    iexact HO
  unfold blockInv
  iintro ⟨%fr', %W', %hfr, %hW', Ht, Hr, Hs, Hv, HO⟩
  obtain rfl : fr' = namedRows tb ft (fetched l lo hlo) := funext fun j => hfr j (j 1).isLt
  iapply (Transfers.wp_dmaFromWhole countersEmb 𝒱₀ (VT d L) none (none : HIx 1) (oPart out oo hoo).view.dmaCredit rfl (credit_pos out oo hoo) (Finset.Subset.refl _)) $$ [Hr Ho Hv2]
  · isplitl [Hr]; · iexact Hr
    isplitl [Ho]; · iexact Ho
    iexact Hv2
  iintro Hfl
  iapply (Transfers.wp_waitLocalO countersEmb 𝒱₀ (VT d L) none (none : HIx 1) (rfl : (oPart out oo hoo).view.dmaCredit = _)) $$ [Hfl HO]
  · isplitl [Hfl]; · iexact Hfl
    isplitl [HO]; · iexact HO
    iapply (Transfers.MayWaits.elim (SemLoc.dma s₂)) $$ Hmw
  iintro ⟨⟨Ho, Hr⟩, Hv2, HO⟩
  dsimp only [Prog.bind]
  sl_step
  isplitl [Ht Hl Ho]
  · isplitl [Ht]; · iexact Ht
    isplitl [Hl]; · iexact Hl
    iexact Ho
  isplitl [Hs Hr]
  · isplitl [Hs]; · iexists _; iexact Hs
    iexists _; iexact Hr
  isplitl [Hv Hv1 Hv2]; · iframe Hv Hv1 Hv2
  iexists _; isplitr
  swap; · iexact HO
  ipureintro; intro p hp
  rcases Finset.mem_insert.mp hp with hp | hp; · exact .inr (hp ▸ rfl)
  rcases hW' p hp with hp | hp
  · rcases Finset.mem_insert.mp hp with hp | hp; · exact .inr (hp ▸ rfl)
    exact .inl hp
  · exact .inr hp

end Cert.Proof.Scale

end
-- ==== Proof.Tile.lean ====
/-
  The tile's task at a symbolic tile: which branch its number takes, the rows of the result it writes, and the task's
  triple — from the tile's holdings with the results' rows unwritten to the same with the rows looked up. From it the
  launch theorem's obligation at the one SparseCore call.
-/
module

public import proofs.«01_k».proof.Proof.Branch

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The tile's number and its branch -/

theorem num_lt (L : grid0.Coords) : 2 * (L 1).val + (L 0).val < 32 := by
  have h0 : (L 0).val < 2 := (L 0).isLt
  have h1 : (L 1).val < 16 := (L 1).isLt
  omega

/-- The number of the tile at `L`. -/
def num (L : grid0.Coords) : Fin 32 := ⟨2 * (L 1).val + (L 0).val, num_lt L⟩

theorem cond1_iff : ∀ L : grid0.Coords, k0_cond1 L = 1#1 ↔ 2 * (L 1).val + (L 0).val < 8 := by decide +kernel
theorem cond2_iff : ∀ L : grid0.Coords, k0_cond2 L = 1#1 ↔ 8 ≤ 2 * (L 1).val + (L 0).val ∧ 2 * (L 1).val + (L 0).val < 16 := by decide +kernel

/-! ## The rows a tile writes -/

/-- The tables and the results, as a tile addresses them. -/
abbrev gamM : Memref sig .scVector .hbm S1000x768 .f32 := Memref.whole main_arg2_scv
abbrev betM : Memref sig .scVector .hbm S1000x768 .f32 := Memref.whole main_arg3_scv
abbrev gOutM : Memref sig .scVector .hbm S64x768 .f32 := Memref.whole main_v1_0_scv
abbrev bOutM : Memref sig .scVector .hbm S64x768 .f32 := Memref.whole main_v1_1_scv

theorem mem_oRect {k : ℕ} {oo : Fin 2 → ℕ} (hoo) (h : oo = ![8 * k, 0]) (j : S64x768.Idx) : j ∈ (oRect oo hoo).set ↔ (j 0).val / 8 = k := by
  subst h
  rw [Rect.mem_set_unit]
  constructor
  · intro hj
    have h0 : 8 * k ≤ (j 0).val ∧ (j 0).val < 8 * k + 8 := hj 0
    omega
  · intro hj a
    match a with
    | 0 => show 8 * k ≤ (j 0).val ∧ (j 0).val < 8 * k + 8; omega
    | 1 => have h1 : (j 1).val < 768 := (j 1).isLt
           show 0 ≤ (j 1).val ∧ (j 1).val < 0 + 768; omega

/-- The rows `k`, `k + 1`, …, of the looked-up result are those the tile's eight labels name. -/
theorem named_eq_lookup {k : ℕ} (t : S1000x768.Idx → Elt F .f32) (l : S64.Idx → BitVec 32) {lo : Fin 1 → ℕ} (hlo) {oo : Fin 2 → ℕ} (hoo)
    (h1 : lo = ![8 * k]) (h2 : oo = ![8 * k, 0]) (x : S8x768.Idx) :
    t (at2 (n := 1000) (k := 768) (rowOf (fetched l lo hlo (at1 (n := 8) (x 0)))) (x 1)) = lookup t l ((oRect oo hoo).emb x) := by
  subst h1; subst h2
  unfold lookup fetched
  have hl : (lRect ![8 * k] hlo).emb (at1 (n := 8) (x 0)) = at1 (n := 64) ((oRect ![8 * k, 0] hoo).emb x 0) := by
    funext a; apply Fin.ext
    match a with
    | 0 => rw [Rect.emb_apply]; show _ = ((oRect ![8 * k, 0] hoo).emb x 0).val; rw [Rect.emb_apply]; rfl
  have hc : (oRect ![8 * k, 0] hoo).emb x 1 = x 1 := Fin.ext (by rw [Rect.emb_apply]; show 0 + 1 * (x 1).val = (x 1).val; omega)
  rw [hl, hc]

/-- The eight rows of the gamma result at the tile, written with the named rows, are the looked-up ones. -/
theorem gOut_pts (d : Dev nD) (L : grid0.Coords) {k : ℕ} {lo : Fin 1 → ℕ} (hlo) {oo : Fin 2 → ℕ} (hoo)
    (h1 : lo = ![8 * k]) (h2 : oo = ![8 * k, 0]) (f : S64x768.Idx → Elt F .f32) :
    ((gOutM.view.loc (VT d L) ↦[(oPart gOutM oo hoo).view.set]{fullShare} (oPart gOutM oo hoo).view.write (Elt F) f
        (namedRows gamM (m (gamLoc d)) (fetched (labs m d) lo hlo)) Finset.univ) : sProp 𝕄)
      = (gLoc d ↦[(oPart gOutM oo hoo).view.set]{fullShare} gVal m d) := by
  refine pointsTo_congr fun j hj => ?_
  obtain ⟨x, -, rfl⟩ := Finset.mem_map.mp hj
  refine (View.write_emb_of_mem (v := (oPart gOutM oo hoo).view) f _ (Finset.mem_univ x)).trans ?_
  exact named_eq_lookup (m (gamLoc d)) (labs m d) hlo hoo h1 h2 x

/-- The same of the beta result. -/
theorem bOut_pts (d : Dev nD) (L : grid0.Coords) {k : ℕ} {lo : Fin 1 → ℕ} (hlo) {oo : Fin 2 → ℕ} (hoo)
    (h1 : lo = ![8 * k]) (h2 : oo = ![8 * k, 0]) (f : S64x768.Idx → Elt F .f32) :
    ((bOutM.view.loc (VT d L) ↦[(oPart bOutM oo hoo).view.set]{fullShare} (oPart bOutM oo hoo).view.write (Elt F) f
        (namedRows betM (m (betLoc d)) (fetched (labs m d) lo hlo)) Finset.univ) : sProp 𝕄)
      = (bLoc d ↦[(oPart bOutM oo hoo).view.set]{fullShare} bVal m d) := by
  refine pointsTo_congr fun j hj => ?_
  obtain ⟨x, -, rfl⟩ := Finset.mem_map.mp hj
  refine (View.write_emb_of_mem (v := (oPart bOutM oo hoo).view) f _ (Finset.mem_univ x)).trans ?_
  exact named_eq_lookup (m (betLoc d)) (labs m d) hlo hoo h1 h2 x

omit [FloatOps F] in
theorem gSet_eq (L : grid0.Coords) {k : ℕ} {oo : Fin 2 → ℕ} (hoo) (h : oo = ![8 * k, 0]) (hk : (num L).val = k) :
    (oPart gOutM oo hoo).view.set = gSet (num L) := by
  refine (View.set_slice_whole _ _).trans ?_
  ext j; rw [mem_oRect hoo h]; simp [gSet, hk]

omit [FloatOps F] in
theorem bSet_eq (L : grid0.Coords) {k : ℕ} {oo : Fin 2 → ℕ} (hoo) (h : oo = ![8 * k, 0]) (hk : (num L).val = k + 8) :
    (oPart bOutM oo hoo).view.set = bSet (num L) := by
  refine (View.set_slice_whole _ _).trans ?_
  ext j; rw [mem_oRect hoo h]; simp [bSet, hk]

omit [FloatOps F] in
theorem gSet_empty (w : Fin 32) (h : 8 ≤ w.val) : gSet w = ∅ := by
  ext j; have h0 : (j 0).val < 64 := (j 0).isLt
  simp [gSet]; omega
omit [FloatOps F] in
theorem bSet_empty (w : Fin 32) (h : w.val < 8 ∨ 16 ≤ w.val) : bSet w = ∅ := by
  ext j; have h0 : (j 0).val < 64 := (j 0).isLt
  simp [bSet]; omega

omit [FloatOps F] in
/-- No element of a result held: at any contents. -/
theorem pts_none (ℓ : Loc nD τ sig) (I : Finset (Idx ℓ)) (h : I = ∅) (f g : Buf (Elt F) ℓ) :
    ((ℓ ↦[I]{fullShare} f) : sProp 𝕄) = (ℓ ↦[I]{fullShare} g) := by
  subst h; exact pointsTo_congr fun i hi => absurd hi (Finset.notMem_empty i)

/-! ## The task's own cells and buffers -/

/-- The five cells the task names: the stream's, and the four copies'. -/
abbrev cellAt (d : Dev nD) (L : grid0.Coords) (k : Fin 5) : GSem nD τ sig := (VT d L, .dma (⟨k.val, k.isLt.trans (by decide)⟩ : DmaSem sig))

/-- The cells at zero, by name. -/
def cells0 (d : Dev nD) (L : grid0.Coords) : sProp 𝕄 :=
  iprop(semVal (VT d L, SemLoc.dma cc0_scratch2.sem) 0 ∗ semVal (VT d L, SemLoc.dma cc0_scoped0.sem) 0
    ∗ semVal (VT d L, SemLoc.dma cc0_scoped1.sem) 0 ∗ semVal (VT d L, SemLoc.dma cc0_scoped2.sem) 0
    ∗ semVal (VT d L, SemLoc.dma cc0_scoped3.sem) 0)

omit [FloatOps F] in
theorem cellAt_mem (d : Dev nD) (L : grid0.Coords) (k : Fin 5) : cellAt d L k ∈ ownCells (VT d L) :=
  mem_ownCells.mpr ⟨rfl, (show ∀ j : Fin 5, (SemLoc.dma (⟨j.val, j.isLt.trans (by decide)⟩ : DmaSem sig) : SemLoc sig).isScoped .scVector = true by decide) k⟩

omit [FloatOps F] in
theorem ownSems0_V (d : Dev nD) (L : grid0.Coords) :
    (ownSems0 (VT d L) : sProp 𝕄)
      = iprop(cells0 d L ∗ bigSep (ownCells (VT d L) \ Finset.univ.image (cellAt d L)) fun g => semVal g 0) := by
  unfold SparseCore.Cfg.ownSems0 cells0
  rw [SparseCore.bigSep_sdiff_split' (t := Finset.univ.image (cellAt d L))
      (Finset.image_subset_iff.mpr fun k _ => cellAt_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
theorem ownBufs_V (d : Dev nD) (L : grid0.Coords) :
    (ownBufs (VT d L) : sProp 𝕄)
      = iprop(scratch d L
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs scratch
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  exact BI.Entails.antisymm BI.sep_assoc' BI.sep_assoc

/-! ## The branches -/

/-- The kernel at the tile `L`, at the call's own buffers. -/
abbrev kernelAt (L : grid0.Coords) : Prog (TpuEff nD τ sig (Elt F) Λ₀ (.scVector (cV L) (jV L))) PUnit :=
  cc0_gather_kernel L gamM (Memref.isWhole_whole _) betM (Memref.isWhole_whole _) labM (Memref.isWhole_whole _)
    gOutM (Memref.isWhole_whole _) bOutM (Memref.isWhole_whole _) lstM (Memref.isWhole_whole _) rowM (Memref.isWhole_whole _)
    cc0_scratch2 cc0_scoped0 cc0_scoped1 cc0_scoped2 cc0_scoped3

theorem kernel_gamma (L : grid0.Coords) (h1 : k0_cond1 L = 1#1) (h2 : ¬ k0_cond2 L = 1#1) :
    kernelAt (F := F) L = taskProg L gamM gOutM (k0_off1 L) (k0_off1_inb L h1) (k0_off2 L) (k0_off2_inb L h1) cc0_scoped0.sem cc0_scoped1.sem := by
  unfold kernelAt
  rw [cc0_gather_kernel_eq_skeleton, cc0_gather_kernel_skel, dif_pos h1, dif_neg h2, k0_part1_eq_skeleton]
  rfl

theorem kernel_beta (L : grid0.Coords) (h1 : ¬ k0_cond1 L = 1#1) (h2 : k0_cond2 L = 1#1) :
    kernelAt (F := F) L = taskProg L betM bOutM (k0_off3 L) (k0_off3_inb L h2) (k0_off4 L) (k0_off4_inb L h2) cc0_scoped2.sem cc0_scoped3.sem := by
  unfold kernelAt
  rw [cc0_gather_kernel_eq_skeleton, cc0_gather_kernel_skel, dif_neg h1, dif_pos h2, k0_part2_eq_skeleton]
  rfl

theorem kernel_rest (L : grid0.Coords) (h1 : ¬ k0_cond1 L = 1#1) (h2 : ¬ k0_cond2 L = 1#1) :
    kernelAt (F := F) L = pure ⟨⟩ := by
  unfold kernelAt
  rw [cc0_gather_kernel_eq_skeleton, cc0_gather_kernel_skel, dif_neg h1, dif_neg h2]

/-! ## The task -/

/-- The two scratch buffers, the five cells, and the debts, with the tile's holdings. -/
def tileHolds (d : Dev nD) (L : grid0.Coords) (g b : S64x768.Idx → Elt F .f32) : sProp 𝕄 :=
  iprop(tilePts m d g b (num L) ∗ scratch d L ∗ cells0 d L)

/-- A tile below the eighth looks its labels up in gamma. -/
theorem run_gamma (hpre : PreOK m) (d : Dev nD) (L : grid0.Coords) (hw : (num L).val < 8) (O : CellTallies nD τ sig (HIx 1)) (W : Waits sig (HIx 1)) :
    iprop(Transfers.MayWaits (VT d L) (none : HIx 1) O ∗ tileHolds m d L (m (gLoc d)) (m (bLoc d)) ∗ owes (VT d L) O W)
      ⊢ wp frame (wpE (defs₀ (F := F)) 𝒱₀ (VT d L) none) Set.univ (kernelAt L) fun _ =>
          iprop(tileHolds m d L (gVal m d) (bVal m d) ∗ ∃ W' : Waits sig (HIx 1), ⌜∀ p ∈ W', p ∈ W ∨ p.2 = none⌝ ∗ owes (VT d L) O W') := by
  have h1 : k0_cond1 L = 1#1 := (cond1_iff L).mpr hw
  have h2 : ¬ k0_cond2 L = 1#1 := fun h => absurd ((cond2_iff L).mp h).1 (by have : 2 * (L 1).val + (L 0).val < 8 := hw; omega)
  have hk : (2 * (L 1).val + (L 0).val) % 8 = (num L).val := Nat.mod_eq_of_lt hw
  have e1 : k0_off1 L = ![8 * (num L).val] := by rw [k0_off1_eq, hk]
  have e2 : k0_off2 L = ![8 * (num L).val, 0] := by rw [k0_off2_eq, hk]
  rw [kernel_gamma L h1 h2]
  unfold tileHolds tilePts cells0
  rw [← gSet_eq L (k0_off2_inb L h1) e2 rfl, pts_none (bLoc d) (bSet (num L)) (bSet_empty _ (.inl hw)) (bVal m d) (m (bLoc d))]
  iintro ⟨Hmw, ⟨⟨Hg, Hb, Hl, Hgo, Hbo⟩, Hsc, ⟨Hv, Hv0, Hv1, Hv2, Hv3⟩⟩, HO⟩
  ihave Hw := (task_run d L gamM gOutM (k0_off1 L) (k0_off1_inb L h1) (k0_off2 L) (k0_off2_inb L h1) cc0_scoped0.sem cc0_scoped1.sem (shr (num L))
    (m (gamLoc d)) (labs m d) (hpre d) (m (gLoc d)) O W) $$ [Hmw Hg Hl Hgo Hsc Hv Hv0 Hv1 HO]
  · isplitl [Hmw]; · iexact Hmw
    isplitl [Hg Hl Hgo]
    · isplitl [Hg]; · iexact Hg
      isplitl [Hl]; · iexact Hl
      iexact Hgo
    isplitl [Hsc]; · iexact Hsc
    isplitl [Hv Hv0 Hv1]; · iframe Hv Hv0 Hv1
    iexact HO
  iapply (wp_wand_r _ _ _)
  isplitl [Hw]; · iexact Hw
  iintro %_ ⟨⟨Hg, Hl, Hgo⟩, Hsc, ⟨Hv, Hv0, Hv1⟩, HO⟩
  isplitr [HO]
  · isplitl [Hg Hb Hl Hgo Hbo]
    · isplitl [Hg]; · iexact Hg
      isplitl [Hb]; · iexact Hb
      isplitl [Hl]; · iexact Hl
      isplitl [Hgo]
      · iapply (Entails.of_eq (gOut_pts m d L (k0_off1_inb L h1) (k0_off2_inb L h1) e1 e2 (m (gLoc d)))); iexact Hgo
      iexact Hbo
    isplitl [Hsc]; · iexact Hsc
    iframe Hv Hv0 Hv1 Hv2 Hv3
  iexact HO

/-- A tile from the eighth, below the sixteenth, in beta. -/
theorem run_beta (hpre : PreOK m) (d : Dev nD) (L : grid0.Coords) (hw : 8 ≤ (num L).val ∧ (num L).val < 16) (O : CellTallies nD τ sig (HIx 1)) (W : Waits sig (HIx 1)) :
    iprop(Transfers.MayWaits (VT d L) (none : HIx 1) O ∗ tileHolds m d L (m (gLoc d)) (m (bLoc d)) ∗ owes (VT d L) O W)
      ⊢ wp frame (wpE (defs₀ (F := F)) 𝒱₀ (VT d L) none) Set.univ (kernelAt L) fun _ =>
          iprop(tileHolds m d L (gVal m d) (bVal m d) ∗ ∃ W' : Waits sig (HIx 1), ⌜∀ p ∈ W', p ∈ W ∨ p.2 = none⌝ ∗ owes (VT d L) O W') := by
  have h1 : ¬ k0_cond1 L = 1#1 := fun h => absurd ((cond1_iff L).mp h) (by have : 8 ≤ 2 * (L 1).val + (L 0).val := hw.1; omega)
  have h2 : k0_cond2 L = 1#1 := (cond2_iff L).mpr hw
  have hk : (2 * (L 1).val + (L 0).val) % 8 = (num L).val - 8 := by
    show (2 * (L 1).val + (L 0).val) % 8 = 2 * (L 1).val + (L 0).val - 8
    have hw' : 8 ≤ 2 * (L 1).val + (L 0).val ∧ 2 * (L 1).val + (L 0).val < 16 := hw
    omega
  have e1 : k0_off3 L = ![8 * ((num L).val - 8)] := by rw [k0_off3_eq, hk]
  have e2 : k0_off4 L = ![8 * ((num L).val - 8), 0] := by rw [k0_off4_eq, hk]
  rw [kernel_beta L h1 h2]
  unfold tileHolds tilePts cells0
  rw [← bSet_eq L (k0_off4_inb L h2) e2 (by omega), pts_none (gLoc d) (gSet (num L)) (gSet_empty _ hw.1) (gVal m d) (m (gLoc d))]
  iintro ⟨Hmw, ⟨⟨Hg, Hb, Hl, Hgo, Hbo⟩, Hsc, ⟨Hv, Hv0, Hv1, Hv2, Hv3⟩⟩, HO⟩
  ihave Hw := (task_run d L betM bOutM (k0_off3 L) (k0_off3_inb L h2) (k0_off4 L) (k0_off4_inb L h2) cc0_scoped2.sem cc0_scoped3.sem (shr (num L))
    (m (betLoc d)) (labs m d) (hpre d) (m (bLoc d)) O W) $$ [Hmw Hb Hl Hbo Hsc Hv Hv2 Hv3 HO]
  · isplitl [Hmw]; · iexact Hmw
    isplitl [Hb Hl Hbo]
    · isplitl [Hb]; · iexact Hb
      isplitl [Hl]; · iexact Hl
      iexact Hbo
    isplitl [Hsc]; · iexact Hsc
    isplitl [Hv Hv2 Hv3]; · iframe Hv Hv2 Hv3
    iexact HO
  iapply (wp_wand_r _ _ _)
  isplitl [Hw]; · iexact Hw
  iintro %_ ⟨⟨Hb, Hl, Hbo⟩, Hsc, ⟨Hv, Hv2, Hv3⟩, HO⟩
  isplitr [HO]
  · isplitl [Hg Hb Hl Hgo Hbo]
    · isplitl [Hg]; · iexact Hg
      isplitl [Hb]; · iexact Hb
      isplitl [Hl]; · iexact Hl
      isplitl [Hgo]; · iexact Hgo
      iapply (Entails.of_eq (bOut_pts m d L (k0_off3_inb L h2) (k0_off4_inb L h2) e1 e2 (m (bLoc d)))); iexact Hbo
    isplitl [Hsc]; · iexact Hsc
    iframe Hv Hv0 Hv1 Hv2 Hv3
  iexact HO

/-- A tile from the sixteenth rests. -/
theorem run_rest (d : Dev nD) (L : grid0.Coords) (hw : 16 ≤ (num L).val) (O : CellTallies nD τ sig (HIx 1)) (W : Waits sig (HIx 1)) :
    iprop(tileHolds m d L (m (gLoc d)) (m (bLoc d)) ∗ owes (VT d L) O W)
      ⊢ wp frame (wpE (defs₀ (F := F)) 𝒱₀ (VT d L) none) Set.univ (kernelAt L) fun _ =>
          iprop(tileHolds m d L (gVal m d) (bVal m d) ∗ ∃ W' : Waits sig (HIx 1), ⌜∀ p ∈ W', p ∈ W ∨ p.2 = none⌝ ∗ owes (VT d L) O W') := by
  have h1 : ¬ k0_cond1 L = 1#1 := fun h => absurd ((cond1_iff L).mp h) (by have : 16 ≤ 2 * (L 1).val + (L 0).val := hw; omega)
  have h2 : ¬ k0_cond2 L = 1#1 := fun h => absurd ((cond2_iff L).mp h).2 (by have : 16 ≤ 2 * (L 1).val + (L 0).val := hw; omega)
  rw [kernel_rest L h1 h2]
  unfold tileHolds tilePts
  rw [pts_none (gLoc d) (gSet (num L)) (gSet_empty _ (by omega)) (gVal m d) (m (gLoc d)),
    pts_none (bLoc d) (bSet (num L)) (bSet_empty _ (.inr hw)) (bVal m d) (m (bLoc d))]
  iintro ⟨H, HO⟩
  sl_step
  isplitl [H]; · iexact H
  iexists W; isplitr
  · ipureintro; exact fun p hp => .inl hp
  iexact HO

theorem tile_run (hpre : PreOK m) (d : Dev nD) (L : grid0.Coords) (O : CellTallies nD τ sig (HIx 1)) (W : Waits sig (HIx 1)) :
    iprop(Transfers.MayWaits (VT d L) (none : HIx 1) O ∗ tileHolds m d L (m (gLoc d)) (m (bLoc d)) ∗ owes (VT d L) O W)
      ⊢ wp frame (wpE (defs₀ (F := F)) 𝒱₀ (VT d L) none) Set.univ (kernelAt L) fun _ =>
          iprop(tileHolds m d L (gVal m d) (bVal m d) ∗ ∃ W' : Waits sig (HIx 1), ⌜∀ p ∈ W', p ∈ W ∨ p.2 = none⌝ ∗ owes (VT d L) O W') := by
  by_cases h8 : (num L).val < 8
  · exact run_gamma m hpre d L h8 O W
  by_cases h16 : (num L).val < 16
  · exact run_beta m hpre d L ⟨Nat.le_of_not_lt h8, h16⟩ O W
  · exact sep_elim_right.trans (run_rest m d L (Nat.le_of_not_lt h16) O W)

/-! ## The launch theorem's obligation -/

/-- The task from what the launch hands a tile: its holdings, its own buffers and cells, its debts. -/
theorem tile_body (hF : (K (F := F)).Facts) (hpre : PreOK m) (d : Dev nD) (L : grid0.Coords) (O : CellTallies nD τ sig (HIx 1)) (W : Waits sig (HIx 1))
    (hO : ∀ g, O g none = 0) :
    iprop(levAts (K (F := F)).L (K (F := F)).lev ∗ emp ∗ goW m d (num L)
        ∗ scopedBufs (VT d L) ∗ scopedSems0 (VT d L) ∗ owes (VT d L) O W)
      ⊢ wp frame (wpE (defs₀ (F := F)) 𝒱₀ (VT d L) none) Set.univ (kernelAt L)
          fun _ => iprop(tdW m d (num L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, Hgo, ⟨Hsc, Hbufs⟩, ⟨Hc, Hsems⟩, HO⟩
  ihave Hmw := (show levAts (K (F := F)).L (K (F := F)).lev ⊢ Transfers.MayWaits (VT d L) (none : HIx 1) O from
    (K (F := F)).mayWaits_none (thr := VT d L) hO) $$ Hlv
  ihave Hw := (tile_run m hpre d L O W) $$ [Hmw Hgo Hsc Hc HO]
  · isplitl [Hmw]; · iexact Hmw
    isplitr [HO]
    · unfold tileHolds goW; iframe Hgo Hsc Hc
    iexact HO
  iapply (wp_wand_r _ _ _)
  isplitl [Hw]; · iexact Hw
  unfold tileHolds tdW
  iintro %_ ⟨⟨Htd, Hsc, Hc⟩, %W', %hW', HO⟩
  isplitl [Htd]; · iexact Htd
  isplitl [Hsc Hbufs]; · iframe Hsc Hbufs
  isplitl [Hc Hsems]; · iframe Hc Hsems
  iexists W'; isplitr
  · ipureintro; exact fun p hp => (hW' p hp).imp_right Or.inl
  iexact HO

/-- The tile's coordinates from the launch's core and subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kernelAt (coordsV c s)) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hF hpre d (coordsV ⟨_, hci.1⟩ ⟨_, hci.2⟩) O W hO

end Cert.Proof.Scale

end
-- ==== Proof.Body.lean ====
/-
  The TensorCore kernel's body at one grid point: from its four staging buffers held — a block of the input, the two
  looked-up tables, the result's block at anything — it leaves the result's block at the block times the first table plus
  the second.
-/
module

public import proofs.«01_k».proof.Proof.Setup
public import Idealize.ShloMosaic.Lib.Pipeline.Value
public import Idealize.ShloMosaic.Lib.Writes

@[expose] public section

noncomputable section

namespace Cert.Proof.Scale

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem zeros4 : (![0, 0, 0, 0] : Fin 4 → ℕ) = fun _ => 0 := funext fun a => by fin_cases a <;> rfl
theorem zeros2 : (![0, 0] : Fin 2 → ℕ) = fun _ => 0 := funext fun a => by fin_cases a <;> rfl

/-- A load of a whole block reads the block. -/
theorem read_all {s : Shape} {e : EltTy} {M : Memref sig .tc .vmem s e} {off : Fin s.rank → ℕ} (hz : off = fun _ => 0)
    (inb : ∀ a, off a + s.size a ≤ s.size a) (f : M.view.ty.Contents (Elt F)) :
    View.readAt (Elt F) M.view (Rect.unit off s.size inb).toLoadRect f = View.read (Elt F) M.view f := by
  rw [View.readAt_eq_ld, View.ld_unit_zero hz]

/-- After one store of a whole block the buffer reads what was stored. -/
theorem read_one_write {s : Shape} {e : EltTy} {M : Memref sig .tc .vmem s e} {off : Fin s.rank → ℕ} (hz : off = fun _ => 0)
    (inb : ∀ a, off a + s.size a ≤ s.size a) (f : M.view.ty.Contents (Elt F)) (w : s.Idx → Elt F e) :
    View.read (Elt F) M.view (M.view.writes (Elt F) f [⟨Rect.unit off s.size inb, w⟩]) = w := by
  subst hz
  funext y
  have hy : (Rect.unit (s := s) (fun _ => 0) s.size inb).emb y = y := by
    funext a; apply Fin.ext; rw [Rect.emb_apply]; show 0 + 1 * (y a).val = (y a).val; omega
  have h := View.read_writes_cons_emb M.view f (Rect.unit (s := s) (fun _ => 0) s.size inb) w [] y
  rwa [hy] at h

theorem body_run (c : Dev nD) (i : grid1.Coords)
    (M1 : Memref sig .tc .vmem S1x14x64x768 .f32) (h1 : M1.IsWhole) (M2 : Memref sig .tc .vmem S64x768 .f32) (h2 : M2.IsWhole)
    (M3 : Memref sig .tc .vmem S64x768 .f32) (h3 : M3.IsWhole) (M4 : Memref sig .tc .vmem S1x14x64x768 .f32) (h4 : M4.IsWhole)
    (x : Vec F S1x14x64x768 .f32) (g b : Vec F S64x768 .f32) (o : Vec F S1x14x64x768 .f32) :
    iprop(owns (c : Thread nD τ) M1 fullShare x ∗ owns (c : Thread nD τ) M2 fullShare g ∗ owns (c : Thread nD τ) M3 fullShare b
        ∗ owns (c : Thread nD τ) M4 fullShare o)
      ⊢ (wp frame (wpE (defs₀ (F := F)) 𝒱₀ (c : Thread nD τ) none) Set.univ (cc1__scale_shift_body (F := F) i M1 h1 M2 h2 M3 h3 M4 h4)
          fun _ => iprop(owns (c : Thread nD τ) M1 fullShare x ∗ owns (c : Thread nD τ) M2 fullShare g ∗ owns (c : Thread nD τ) M3 fullShare b
            ∗ owns (c : Thread nD τ) M4 fullShare (k1_pay1 x g b)) : sProp 𝕄) := by
  rw [cc1__scale_shift_body_eq_skeleton]
  unfold owns cc1__scale_shift_body_skel
  iintro ⟨⟨%f1, %hf1, H1⟩, ⟨%f2, %hf2, H2⟩, ⟨%f3, %hf3, H3⟩, ⟨%f4, -, H4⟩⟩
  sl_exec
  sl_step
  rw [read_all zeros4, read_all zeros2, read_all zeros2, hf1, hf2, hf3]
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists _; isplitr; swap
  · iexact H4
  · ipureintro; exact read_one_write (s := S1x14x64x768) (e := .f32) zeros4 _ _ _

end Cert.Proof.Scale

end
-- ==== Proof.Region.lean ====
/-
  The TensorCore call's region: the pipeline's proof data over the arrays as the region finds them, the body obligation at
  every grid point, and the result array after the last one — the transposed input times the first looked-up table plus the
  second, element by element.
-/
module

public import proofs.«01_k».proof.Proof.Body
public import Idealize.ShloMosaic.Lib.Pipeline.Regions
public import Idealize.ShloMosaic.Lib.Pipeline.RegionArrays
public import Idealize.ShloMosaic.Lib.Pipeline.FrameBody

@[expose] public section

noncomputable section

namespace Cert.Proof.Scale

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

variable (A : Dev nD → Valuation τ sig (Elt F))

/-- Window `w`'s block at point `t` of the array as the region finds it. -/
def blkOf (c : Dev nD) (w : Fin cfg1.W) (t : Fin cfg1.N) : ((cfg1.win w).xblock (cfg1.grid.coords t)).Idx → Elt F (cfg1.win w).elt :=
  ((cfg1.win w).blk t).view.read (Elt F) (A c (Proc.devRef .tc (Pipeline.arrRef spec1 w)))

/-- The proof data: the inputs' staging buffers keep their blocks, the result's gets the body's value; nothing is owed, and
    the waits recorded stay at or below the SparseCore call's level. -/
def dats (_ : Fin 1) (c : Dev nD) : Dat τ (Elt F) (HIx 1) ℕ UU ℕ cfg1 c where
  A w := A c (Proc.devRef .tc (Pipeline.arrRef spec1 w))
  after w t := match w with
    | ⟨0, _⟩ => blkOf A c 0 t
    | ⟨1, _⟩ => blkOf A c 1 t
    | ⟨2, _⟩ => blkOf A c 2 t
    | ⟨3, _⟩ => k1_pay1 (blkOf A c 0 t) (blkOf A c 1 t) (blkOf A c 2 t)
  Φ _ := iprop(emp)
  q _ := fullShare
  owed _ := 0
  recorded _ := {p | (K (F := F)).lev ((c : Thread nD τ), p.1) p.2 ≤ 8 * (SparseCore.Cfg.Blocks.fst (Q := 1) (N := 1) 1)}

theorem after_0 (c : Dev nD) (t : Fin cfg1.N) : (dats A 0 c).after 0 t = blkOf A c 0 t := by dsimp only [dats]
theorem after_1 (c : Dev nD) (t : Fin cfg1.N) : (dats A 0 c).after 1 t = blkOf A c 1 t := by dsimp only [dats]
theorem after_2 (c : Dev nD) (t : Fin cfg1.N) : (dats A 0 c).after 2 t = blkOf A c 2 t := by dsimp only [dats]
theorem after_3 (c : Dev nD) (t : Fin cfg1.N) :
    (dats A 0 c).after 3 t = k1_pay1 (blkOf A c 0 t) (blkOf A c 1 t) (blkOf A c 2 t) := by dsimp only [dats]

/-- An input's staging buffer holds its block whenever the body runs. -/
theorem before_0 (c : Dev nD) (t : Fin cfg1.N) (d) : (dats A 0 c).before 0 t d = blkOf A c 0 t :=
  (Dat.before_in_eq_fetched _ 0 rfl (fun _ => rfl) (fun _ _ _ => rfl) (fun t => by rw [after_0]; rfl) t d).trans rfl
theorem before_1 (c : Dev nD) (t : Fin cfg1.N) (d) : (dats A 0 c).before 1 t d = blkOf A c 1 t :=
  (Dat.before_in_eq_fetched _ 1 rfl (fun _ => rfl) (fun _ _ _ => rfl) (fun t => by rw [after_1]; rfl) t d).trans rfl
theorem before_2 (c : Dev nD) (t : Fin cfg1.N) (d) : (dats A 0 c).before 2 t d = blkOf A c 2 t :=
  (Dat.before_in_eq_fetched _ 2 rfl (fun _ => rfl) (fun _ _ _ => rfl) (fun t => by rw [after_2]; rfl) t d).trans rfl

/-- The body obligation at every point. -/
theorem body_obligation (c : Dev nD) : BodyObligation (dats A 0 c) (defs₀ (F := F)) 𝒱₀ none Set.univ := fun t => by
  rw [bigSep_W1, bigSep_W1]
  rw [show (dats A 0 c).Φ t.castSucc = iprop(emp) from rfl, show (dats A 0 c).Φ t.succ = iprop(emp) from rfl,
    show (dats A 0 c).owesAt none t.succ = (dats A 0 c).owesAt none t.castSucc from rfl]
  iintro ⟨-, HO, ⟨%d0, H0⟩, ⟨%d1, H1⟩, ⟨%d2, H2⟩, ⟨%d3, H3⟩⟩
  rw [before_0, before_1, before_2]
  ihave Hw := (body_run c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (blkOf A c 0 t) (blkOf A c 1 t) (blkOf A c 2 t)
    ((dats A 0 c).before 3 t d3)) $$ [H0 H1 H2 H3]
  · isplitl [H0]; · iexact H0
    isplitl [H1]; · iexact H1
    isplitl [H2]; · iexact H2
    iexact H3
  iapply (wp_wand_r _ _ _)
  isplitl [Hw]; · iexact Hw
  iintro %a ⟨H0, H1, H2, H3⟩
  isplitr; · iempintro
  isplitl [HO]; · iexact HO
  rw [after_0, after_1, after_2, after_3]
  isplitl [H0]; · iexact H0
  isplitl [H1]; · iexact H1
  isplitl [H2]; · iexact H2
  iexact H3

/-! ## The result array -/

/-- The scaled and shifted array: element by element, a row of `g` and of `b` at the third and fourth coordinates. -/
def scaled (x : S14x14x64x768.Idx → Elt F .f32) (g b : S64x768.Idx → Elt F .f32) : S14x14x64x768.Idx → Elt F .f32 :=
  fun j => FloatOps.addf (F := F) (φ := .f32) (FloatOps.mulf (F := F) (φ := .f32) (x j) (g (at2 (n := 64) (k := 768) (j 2) (j 3)))) (b (at2 (n := 64) (k := 768) (j 2) (j 3)))

/-- A table's row cast to four axes and repeated over the second one, at an index. -/
theorem row_at (g : Vec F S64x768 .f32) (j : S1x14x64x768.Idx) :
    broadcastTo S1x14x64x768 (shapeCast S1x1x64x768 (shapeCast S64x768 g shapeCasts_S64x768_S64x768) shapeCasts_S64x768_S1x1x64x768)
      broadcasts_S1x1x64x768_S1x14x64x768 j = g (at2 (n := 64) (k := 768) (j 2) (j 3)) := by
  let k : S1x1x64x768.Idx := fun | 0 => (0 : Fin 1) | 1 => (0 : Fin 1) | 2 => j 2 | 3 => j 3
  rw [broadcastTo_apply _ _ j k (fun a => by match a with | ⟨0, _⟩ => rfl | ⟨1, _⟩ => rfl | ⟨2, _⟩ => rfl | ⟨3, _⟩ => rfl),
    shapeCast_self]
  refine shapeCast_apply _ _ k (at2 (n := 64) (k := 768) (j 2) (j 3)) ?_
  rw [Shape.rowMajor_val_two, Shape.rowMajor_val_four]
  show _ = ((0 * 1 + 0) * 64 + (j 2).val) * 768 + (j 3).val
  simp
  rfl

/-- The body's value at an index. -/
theorem pay_at (x : Vec F S1x14x64x768 .f32) (g b : Vec F S64x768 .f32) (j : S1x14x64x768.Idx) :
    k1_pay1 x g b j = FloatOps.addf (F := F) (φ := .f32) (FloatOps.mulf (F := F) (φ := .f32) (x j) (g (at2 (n := 64) (k := 768) (j 2) (j 3)))) (b (at2 (n := 64) (k := 768) (j 2) (j 3))) := by
  unfold k1_pay1
  show FloatOps.addf (F := F) (φ := .f32) (FloatOps.mulf (F := F) (φ := .f32) (shapeCast S1x14x64x768 x _ j)
    (broadcastTo S1x14x64x768 (shapeCast S1x1x64x768 (shapeCast S64x768 g _) _) _ j))
    (broadcastTo S1x14x64x768 (shapeCast S1x1x64x768 (shapeCast S64x768 b _) _) _ j) = _
  rw [shapeCast_self x, row_at, row_at]

/-! Where a window's block sits in its array. -/

theorem idx_0 : ∀ t : Fin cfg1.N, win1_0.index t = ![t.val, 0, 0, 0] := (by decide +kernel : ∀ t : Fin grid1.N, _)
theorem idx_1 : ∀ t : Fin cfg1.N, win1_1.index t = ![0, 0] := (by decide +kernel : ∀ t : Fin grid1.N, _)
theorem idx_2 : ∀ t : Fin cfg1.N, win1_2.index t = ![0, 0] := (by decide +kernel : ∀ t : Fin grid1.N, _)
theorem idx_3 : ∀ t : Fin cfg1.N, win1_3.index t = ![t.val, 0, 0, 0] := (by decide +kernel : ∀ t : Fin grid1.N, _)

/-- Place `j` of the block at point `t`, in the fourteen-block array. -/
def inBlk (t : Fin cfg1.N) (j : S1x14x64x768.Idx) : S14x14x64x768.Idx :=
  fun | 0 => ⟨t.val, t.isLt⟩ | 1 => j 1 | 2 => j 2 | 3 => j 3

theorem emb_0 (t : Fin cfg1.N) (j : S1x14x64x768.Idx) : ((cfg1.win 0).blk t).view.emb j = inBlk t j := by
  have e := idx_0 t
  have hj : (j 0).val = 0 := by have h : (j 0).val < 1 := (j 0).isLt; omega
  funext a; apply Fin.ext
  match a with
  | ⟨0, _⟩ => show win1_0.index t (0 : Fin 4) * 1 + 1 * (j 0).val = t.val; rw [e, hj]; simp
  | ⟨1, _⟩ => show win1_0.index t (1 : Fin 4) * 14 + 1 * (j 1).val = (j 1).val; rw [e]; simp
  | ⟨2, _⟩ => show win1_0.index t (2 : Fin 4) * 64 + 1 * (j 2).val = (j 2).val; rw [e]; simp
  | ⟨3, _⟩ => show win1_0.index t (3 : Fin 4) * 768 + 1 * (j 3).val = (j 3).val; rw [e]; simp

theorem emb_3 (t : Fin cfg1.N) (j : S1x14x64x768.Idx) : ((cfg1.win 3).blk t).view.emb j = inBlk t j := by
  have e := idx_3 t
  have hj : (j 0).val = 0 := by have h : (j 0).val < 1 := (j 0).isLt; omega
  funext a; apply Fin.ext
  match a with
  | ⟨0, _⟩ => show win1_3.index t (0 : Fin 4) * 1 + 1 * (j 0).val = t.val; rw [e, hj]; simp
  | ⟨1, _⟩ => show win1_3.index t (1 : Fin 4) * 14 + 1 * (j 1).val = (j 1).val; rw [e]; simp
  | ⟨2, _⟩ => show win1_3.index t (2 : Fin 4) * 64 + 1 * (j 2).val = (j 2).val; rw [e]; simp
  | ⟨3, _⟩ => show win1_3.index t (3 : Fin 4) * 768 + 1 * (j 3).val = (j 3).val; rw [e]; simp

theorem emb_1 (t : Fin cfg1.N) (j : S64x768.Idx) : ((cfg1.win 1).blk t).view.emb j = j := by
  have e := idx_1 t
  funext a; apply Fin.ext
  match a with
  | ⟨0, _⟩ => show win1_1.index t (0 : Fin 2) * 64 + 1 * (j 0).val = (j 0).val; rw [e]; simp
  | ⟨1, _⟩ => show win1_1.index t (1 : Fin 2) * 768 + 1 * (j 1).val = (j 1).val; rw [e]; simp

theorem emb_2 (t : Fin cfg1.N) (j : S64x768.Idx) : ((cfg1.win 2).blk t).view.emb j = j := by
  have e := idx_2 t
  funext a; apply Fin.ext
  match a with
  | ⟨0, _⟩ => show win1_2.index t (0 : Fin 2) * 64 + 1 * (j 0).val = (j 0).val; rw [e]; simp
  | ⟨1, _⟩ => show win1_2.index t (1 : Fin 2) * 768 + 1 * (j 1).val = (j 1).val; rw [e]; simp

/-- The arrays the region reads. -/
abbrev xIn (c : Dev nD) : S14x14x64x768.Idx → Elt F .f32 := A c (Proc.devRef .tc main_v2)
abbrev gIn (c : Dev nD) : S64x768.Idx → Elt F .f32 := A c (Proc.devRef .tc main_v1_0)
abbrev bIn (c : Dev nD) : S64x768.Idx → Elt F .f32 := A c (Proc.devRef .tc main_v1_1)

theorem blk_0 (c : Dev nD) (t : Fin cfg1.N) (j : S1x14x64x768.Idx) : blkOf A c 0 t j = xIn A c (inBlk t j) := by
  show xIn A c (((cfg1.win 0).blk t).view.emb j) = _; rw [emb_0]
theorem blk_1 (c : Dev nD) (t : Fin cfg1.N) (j : S64x768.Idx) : blkOf A c 1 t j = gIn A c j := by
  show gIn A c (((cfg1.win 1).blk t).view.emb j) = _; rw [emb_1]
theorem blk_2 (c : Dev nD) (t : Fin cfg1.N) (j : S64x768.Idx) : blkOf A c 2 t j = bIn A c j := by
  show bIn A c (((cfg1.win 2).blk t).view.emb j) = _; rw [emb_2]

/-- What point `t` writes back is its block of the scaled array. -/
theorem flushed_3 (c : Dev nD) (t : Fin cfg1.N) :
    (dats A 0 c).flushed 3 t = ((cfg1.win 3).blk t).view.read (Elt F) (scaled (xIn A c) (gIn A c) (bIn A c)) := by
  have h : ∀ j : S1x14x64x768.Idx, k1_pay1 (blkOf A c 0 t) (blkOf A c 1 t) (blkOf A c 2 t) j
      = scaled (xIn A c) (gIn A c) (bIn A c) (((cfg1.win 3).blk t).view.emb j) := fun j => by
    rw [pay_at, emb_3, blk_0, blk_1, blk_2]; rfl
  unfold Dat.flushed
  rw [after_3]
  exact funext h

/-- The fourteen blocks cover the array. -/
theorem covered_3 (i : S14x14x64x768.Idx) : ∃ t : Fin cfg1.N, (cfg1.win 3).flush t = true ∧ i ∈ ((cfg1.win 3).blk t).view.set := by
  let t : Fin cfg1.N := ⟨(i 0).val, (i 0).isLt⟩
  let j : S1x14x64x768.Idx := fun | 0 => (0 : Fin 1) | 1 => i 1 | 2 => i 2 | 3 => i 3
  refine ⟨t, flush1_3 t, ?_⟩
  have h := ((cfg1.win 3).blk t).view.emb_mem_set j
  rw [emb_3] at h
  rwa [show inBlk t j = i from funext fun a => by match a with | ⟨0, _⟩ => rfl | ⟨1, _⟩ => rfl | ⟨2, _⟩ => rfl | ⟨3, _⟩ => rfl] at h

/-- The result array after the last point. -/
theorem final_3 (c : Dev nD) : (dats A 0 c).arrAt 3 cfg1.N = scaled (xIn A c) (gIn A c) (bIn A c) :=
  (dats A 0 c).arrAt_eq_of_cover 3 _ (fun t _ => flushed_3 A c t) covered_3

end Cert.Proof.Scale

end
-- ==== Proof.Call.lean ====
/-
  The TensorCore call as one step of @main: from its four arrays held, the region runs and leaves the result array at the
  scaled and shifted input, the other three as found. The core owes nothing there, and the waits recorded stay at or below
  the SparseCore call's level, so that the launch's account of the core's handshakes goes on unchanged.
-/
module

public import proofs.«01_k».proof.Proof.Region

@[expose] public section

noncomputable section

namespace Cert.Proof.Scale

open Cert.KernelIdeal Cert.KernelIdeal.Gen

open Idealize.ShloMosaic
open Idealize.ShloMosaic.TcCoe
open Idealize.ShloMosaic.SparseCore (T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (A : Dev nD → Valuation τ sig (Elt F))

/-- The one admissible setting of the (absent) prefetched tables. -/
abbrev adm : (p : Fin 1) → (pcfgs (F := F) p).Adm := fun p => (cfgs p).toPCfg_adm

/-- The result array as a device buffer. -/
abbrev v3' : DevRef τ sig := Proc.devRef .tc (main_v3 : Ref sig .tc)

/-- The arrays as the region leaves them. -/
def A' (c : Dev nD) : Valuation τ sig (Elt F) := Function.update (A c) v3' (scaled (xIn A c) (gIn A c) (bIn A c))

theorem A'_of_ne (c : Dev nD) {b : DevRef τ sig} (h : b ≠ v3') : A' A c b = A c b := Function.update_of_ne h _ _
theorem A'_v3 (c : Dev nD) : A' A c v3' = scaled (xIn A c) (gIn A c) (bIn A c) := Function.update_self _ _ _

/-- The core owes nothing more, its recorded waits at or below the one call's level. -/
def owesLow (c : Dev nD) : sProp 𝕄 :=
  iprop(∃ W, ⌜(K (F := F)).WBelow (T c) W (8 * (SparseCore.Cfg.Blocks.fst (Q := 1) (N := 1) 1))⌝ ∗ owes (T c) (0 : CellTallies nD τ sig (HIx 1)) W)

theorem finals (c : Dev nD) (w : Fin cfg1.W) : (dats A 0 c).arrAt w cfg1.N = A' A c (Proc.devRef .tc (Pipeline.arrRef spec1 w)) := by
  match w with
  | ⟨0, _⟩ => exact (Dat.arrAt_in _ 0 rfl _).trans (A'_of_ne A c (b := Proc.devRef .tc (main_v2 : Ref sig .tc)) (by decide)).symm
  | ⟨1, _⟩ => exact (Dat.arrAt_in _ 1 rfl _).trans (A'_of_ne A c (b := Proc.devRef .tc (main_v1_0 : Ref sig .tc)) (by decide)).symm
  | ⟨2, _⟩ => exact (Dat.arrAt_in _ 2 rfl _).trans (A'_of_ne A c (b := Proc.devRef .tc (main_v1_1 : Ref sig .tc)) (by decide)).symm
  | ⟨3, _⟩ => exact (final_3 A c).trans (A'_v3 A c).symm

set_option backward.isDefEq.respectTransparency.types false in
/-- The region, entered from the four arrays and left with them. -/
def region : Pipeline.RegionSeg (pcfgs (F := F)) adm (dats A) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A c).loose
  hwaits := Pipeline.hwaits_of_owed_zero _ _ _ _ (K (F := F)).L (K (F := F)).lev 0 fun _ _ => rfl
  pre c := iprop(held (T c) (Pipeline.arrRefs spec1) (A c) ∗ owesLow (F := F) c)
  post c := iprop(held (T c) (Pipeline.arrRefs spec1) (A' A c) ∗ owesLow (F := F) c)
  X _ := iprop(emp)
  Y _ := iprop(emp)
  Z _ := iprop(emp)
  hentry c := by
    rw [Pipeline.ownSems0_none, Pipeline.prefHeld_of_none _ rfl,
      Pipeline.arrays_held (pcfgs (F := F)) adm (dats A) 0 launch1.toP c ((dats A 0 c).share_full fun _ => rfl) ((dats A 0 c).arrAt · 0) (A c)
        (fun _ => rfl)]
    unfold owesLow Pipeline.Dat.owesAt Pipeline.owesWithin
    iintro ⟨⟨Ha, ⟨%W, %hW, HO⟩⟩, -, -⟩
    imodintro
    isplitl [Ha]; · iexact Ha
    isplitr; · iempintro
    isplitl [HO]
    · iexists W; isplitr
      · ipureintro; exact fun p hp => Or.inl (hW p hp)
      iexact HO
    isplitr <;> iempintro
  hin c := by iintro -; iempintro
  hout c := by
    rw [Pipeline.ownSems0_none]
    refine (show iprop(emp) ⊢ _ from ?_)
    rw [show (Pipeline.scopedRest (Pipeline.pin (pcfgs (F := F)) adm 0).spec c : sProp 𝕄) = BI.emp from scopedRest1_eq c]
    iintro -
    isplitr; · iempintro
    isplitr <;> iempintro
  hexit c := by
    rw [Pipeline.arrays_held (pcfgs (F := F)) adm (dats A) 0 launch1.toP c ((dats A 0 c).share_full fun _ => rfl) ((dats A 0 c).arrAt · cfg1.N) (A' A c)
        (finals A c)]
    unfold owesLow Pipeline.Dat.owesAt Pipeline.owesWithin
    iintro ⟨Ha, ⟨%W, %hW, HO⟩, -, -⟩
    imodintro
    isplitl [Ha]; · iexact Ha
    iexists W; isplitr
    · ipureintro
      intro p hp
      rcases hW hp with h | ⟨w, s, rfl⟩
      · exact h
      · exact Nat.zero_le _
    iexact HO

/-- What the call is entered with, and what it leaves. -/
def callPre (c : Dev nD) : sProp 𝕄 :=
  iprop(boundary (T c) ∗ held (T c) (Pipeline.arrRefs spec1) (A c) ∗ owesLow (F := F) c ∗ levAts (K (F := F)).L (K (F := F)).lev
    ∗ Pipeline.cellsGhost (Pipeline.pin (pcfgs (F := F)) adm) EP 0 c ∗ Pipeline.toksInit (Pipeline.pin (pcfgs (F := F)) adm) EP 0 c)
def callPost (c : Dev nD) : sProp 𝕄 :=
  iprop(boundary (T c) ∗ held (T c) (Pipeline.arrRefs spec1) (A' A c) ∗ owesLow (F := F) c)

set_option backward.isDefEq.respectTransparency.types false in
/-- The call under the body table of the TensorCore's own pipelines. -/
theorem inner_run [∀ e, Nonempty (Elt F e)] (c : Dev nD) :
    callPre A c
      ⊢ (wp frame (wpE (Pipeline.defs (pcfgs (F := F)) defs₀) 𝒱₀.lift (T c) none) Set.univ
          (.op (.customCall (Pipeline.entry 0) ()) fun _ => .ret ⟨⟩) fun _ : PUnit => callPost A c : sProp 𝕄) := by
  have h := Pipeline.RegionSeg.wp (pcfgs (F := F)) adm (dats A) none (launch1.toP.cellOf_inj adm) EP defs₀ 𝒱₀ (K (F := F)).L (K (F := F)).lev
    (region A) c none (fun u hu => nomatch hu) (fun _ => .ret ⟨⟩) (fun _ : PUnit => callPost A c)
  have key : callPre A c ⊢ (iprop((iprop(boundary (T c) ∗ held (T c) (Pipeline.arrRefs spec1) (A' A c) ∗ owesLow (F := F) c)
      -∗ wp frame (wpE (Pipeline.defs (pcfgs (F := F)) defs₀) 𝒱₀.lift (T c) none) Set.univ (.ret ⟨⟩) fun _ : PUnit => callPost A c)
        ∗ boundary (T c) ∗ iprop(held (T c) (Pipeline.arrRefs spec1) (A c) ∗ owesLow (F := F) c) ∗ levAts (K (F := F)).L (K (F := F)).lev
        ∗ Pipeline.cellsGhost (Pipeline.pin (pcfgs (F := F)) adm) EP 0 c ∗ Pipeline.toksInit (Pipeline.pin (pcfgs (F := F)) adm) EP 0 c) : sProp 𝕄) := by
    unfold callPre
    iintro ⟨Hb, Ha, HO, Hl, Hc, Ht⟩
    isplitr
    · iintro H
      rw [wp_ret]; imodintro
      unfold callPost
      iexact H
    isplitl [Hb]; · iexact Hb
    isplitl [Ha HO]
    · isplitl [Ha]; · iexact Ha
      iexact HO
    isplitl [Hl]; · iexact Hl
    isplitl [Hc]; · iexact Hc
    iexact Ht
  exact key.trans h

/-- The call in @main. -/
theorem call_run [∀ e, Nonempty (Elt F e)] (c : Dev nD) :
    callPre A c
      ⊢ (wp frame (wpE ((K (F := F)).defs (D (F := F))) 𝒱 (T c) none) Set.univ
          (Prog.lift (.customCall (SparseCore.inner (Pipeline.entry 0)) ())) fun _ => callPost A c : sProp 𝕄) :=
  by
  have h := (K (F := F)).wp_liftProg (D (F := F)) 𝒱 (T c) Set.univ none (.op (.customCall (Pipeline.entry 0) ()) fun _ => .ret ⟨⟩)
    (fun _ : PUnit => callPost A c)
  refine (inner_run A c).trans ?_
  exact h

end Cert.Proof.Scale

end
-- ==== Proof.Steps.lean ====
/-
  The whole program's run on each device: the labels reshaped, the two tables' rows gathered by the SparseCore's tiles,
  the input transposed, scaled and shifted by the TensorCore call, and transposed back. The four arguments stay as
  launched and the result is named by the chain of those steps.
-/
module

public import proofs.«01_k».proof.Proof.Split
public import proofs.«01_k».proof.Proof.Tile
public import proofs.«01_k».proof.Proof.Call

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays of @main -/

abbrev x' : DevRef τ sig := Proc.devRef .tc (main_arg0 : Ref sig .tc)
abbrev l' : DevRef τ sig := Proc.devRef .tc (main_arg1 : Ref sig .tc)
abbrev gam' : DevRef τ sig := Proc.devRef .tc (main_arg2 : Ref sig .tc)
abbrev bet' : DevRef τ sig := Proc.devRef .tc (main_arg3 : Ref sig .tc)
abbrev lab' : DevRef τ sig := Proc.devRef .tc (main_v0 : Ref sig .tc)
abbrev g' : DevRef τ sig := Proc.devRef .tc (main_v1_0 : Ref sig .tc)
abbrev b' : DevRef τ sig := Proc.devRef .tc (main_v1_1 : Ref sig .tc)
abbrev xt' : DevRef τ sig := Proc.devRef .tc (main_v2 : Ref sig .tc)
abbrev o' : DevRef τ sig := Proc.devRef .tc (main_v4 : Ref sig .tc)

/-- Every array of @main. -/
abbrev SU : Finset (DevRef τ sig) := Pipeline.ucRefs τ sig
/-- The SparseCore call's. -/
def SC5 : Finset (DevRef τ sig) := {gam', bet', lab', g', b'}
/-- Those the claim speaks of. -/
def SF5 : Finset (DevRef τ sig) := {x', l', gam', bet', o'}

theorem mem_SU (r : Ref sig .tc) (h : r.isScoped = false) : Proc.devRef .tc r ∈ SU :=
  Finset.mem_filter.mpr ⟨StableHlo.devRef_mem_tcRefs _, fun h' => Bool.false_ne_true (h.symm.trans h')⟩

theorem SC5_sub : SC5 ⊆ SU := by
  unfold SC5
  simp only [Finset.insert_subset_iff, Finset.singleton_subset_iff]
  exact ⟨mem_SU _ rfl, mem_SU _ rfl, mem_SU _ rfl, mem_SU _ rfl, mem_SU _ rfl⟩
theorem SF5_sub : SF5 ⊆ SU := by
  unfold SF5
  simp only [Finset.insert_subset_iff, Finset.singleton_subset_iff]
  exact ⟨mem_SU _ rfl, mem_SU _ rfl, mem_SU _ rfl, mem_SU _ rfl, mem_SU _ rfl⟩
theorem arr_sub : Pipeline.arrRefs (τ := τ) spec1 ⊆ SU := Pipeline.arrRefs_sub_ucRefs spec1 (by decide)

/-! ## The host operations -/

abbrev opL : HloOp τ sig (Elt F) := StableHlo.reshape main_arg1 main_v0 (rfl : (.i32 : EltTy) = .i32) shapeCasts_S64x1_S64
abbrev opT : HloOp τ sig (Elt F) :=
  StableHlo.unary main_arg0 main_v2 ((transpose S14x14x64x768 [1, 2, 0, 3] · transposes_S64x14x14x768_S14x14x64x768_1_2_0_3) : (⟨S64x14x14x768, .f32⟩ : BufTy).Contents (Elt F) → (⟨S14x14x64x768, .f32⟩ : BufTy).Contents (Elt F))
abbrev opB : HloOp τ sig (Elt F) :=
  StableHlo.unary main_v3 main_v4 ((transpose S64x14x14x768 [2, 0, 1, 3] · transposes_S14x14x64x768_S64x14x14x768_2_0_1_3) : (⟨S14x14x64x768, .f32⟩ : BufTy).Contents (Elt F) → (⟨S64x14x14x768, .f32⟩ : BufTy).Contents (Elt F))

theorem opL_bufs : (opL (F := F)).bufs ⊆ SU := by
  show ({l', lab'} : Finset (DevRef τ sig)) ⊆ SU
  simp only [Finset.insert_subset_iff, Finset.singleton_subset_iff]; exact ⟨mem_SU _ rfl, mem_SU _ rfl⟩
theorem opT_bufs : (opT (F := F)).bufs ⊆ SU := by
  show ({x', xt'} : Finset (DevRef τ sig)) ⊆ SU
  simp only [Finset.insert_subset_iff, Finset.singleton_subset_iff]; exact ⟨mem_SU _ rfl, mem_SU _ rfl⟩
theorem opB_bufs : (opB (F := F)).bufs ⊆ SU := by
  show ({v3', o'} : Finset (DevRef τ sig)) ⊆ SU
  simp only [Finset.insert_subset_iff, Finset.singleton_subset_iff]; exact ⟨mem_SU _ rfl, mem_SU _ rfl⟩

/-! ## The arrays' contents after each step -/

def V0 (d : Dev nD) : Valuation τ sig (Elt F) := fun b => m (d, b)
def V1 (d : Dev nD) : Valuation τ sig (Elt F) := (opL (F := F)).result (V0 m d)
def V2 (d : Dev nD) : Valuation τ sig (Elt F) := Function.update (Function.update (V1 m d) g' (gVal m d)) b' (bVal m d)
def V3 (d : Dev nD) : Valuation τ sig (Elt F) := (opT (F := F)).result (V2 m d)
def V4 (d : Dev nD) : Valuation τ sig (Elt F) := A' (V3 m) d
def V5 (d : Dev nD) : Valuation τ sig (Elt F) := (opB (F := F)).result (V4 m d)

theorem V1_ne (d : Dev nD) {r : DevRef τ sig} (h : r ∉ ({lab'} : Finset (DevRef τ sig))) : V1 m d r = m (d, r) :=
  (opL (F := F)).result_of_not_mem _ h
/-- The labels' one column as a list. -/
theorem cast_labels (l : S64x1.Idx → BitVec 32) (j : S64.Idx) : shapeCast S64 l shapeCasts_S64x1_S64 j = l (at2 (n := 64) (k := 1) (j 0) 0) := by
  refine shapeCast_apply _ _ j _ ?_
  rw [Shape.rowMajor_val_two, Shape.rowMajor_val_one]
  show (j 0).val * 1 + 0 = (j 0).val
  omega

theorem V1_lab (d : Dev nD) : V1 m d lab' = labs m d := by
  unfold V1
  refine (StableHlo.reshape_result' (τ := τ) (Val := Elt F) _ _ _ _ (V0 m d)).trans (funext fun j => ?_)
  show shapeCast S64 (m (lLoc d)) shapeCasts_S64x1_S64 j = m (lLoc d) (at2 (n := 64) (k := 1) (j 0) 0)
  exact cast_labels _ j

theorem V2_ne (d : Dev nD) {r : DevRef τ sig} (h : r ∉ ({lab', g', b'} : Finset (DevRef τ sig))) : V2 m d r = m (d, r) := by
  simp only [Finset.mem_insert, Finset.mem_singleton, not_or] at h
  unfold V2
  rw [Function.update_of_ne h.2.2, Function.update_of_ne h.2.1, V1_ne m d (by simpa using h.1)]
theorem V2_lab (d : Dev nD) : V2 m d lab' = labs m d := by
  unfold V2
  rw [Function.update_of_ne (show lab' ≠ b' by decide), Function.update_of_ne (show lab' ≠ g' by decide), V1_lab]
theorem V2_g (d : Dev nD) : V2 m d g' = gVal m d := by
  unfold V2
  rw [Function.update_of_ne (show g' ≠ b' by decide), Function.update_self]
theorem V2_b (d : Dev nD) : V2 m d b' = bVal m d := by
  unfold V2
  rw [Function.update_self]
/-- The call changes nothing outside its own arrays. -/
theorem V2_rest (d : Dev nD) : ∀ r ∈ SU \ SC5, V1 m d r = V2 m d r := by
  intro r hr
  have h := (Finset.mem_sdiff.1 hr).2
  simp only [SC5, Finset.mem_insert, Finset.mem_singleton, not_or] at h
  unfold V2
  rw [Function.update_of_ne h.2.2.2.2, Function.update_of_ne h.2.2.2.1]

theorem V3_ne (d : Dev nD) {r : DevRef τ sig} (h : r ∉ ({xt'} : Finset (DevRef τ sig))) : V3 m d r = V2 m d r :=
  (opT (F := F)).result_of_not_mem _ h
theorem V3_xt (d : Dev nD) : V3 m d xt' = transpose S14x14x64x768 [1, 2, 0, 3] (m (xLoc d)) transposes_S64x14x14x768_S14x14x64x768_1_2_0_3 := by
  unfold V3
  refine (StableHlo.unary_result' (τ := τ) (Val := Elt F) _ _ _ (V2 m d)).trans ?_
  rw [show V2 m d (Proc.devRef .tc main_arg0) = m (xLoc d) from V2_ne m d (r := x') (by decide)]

/-- The region changes only its result. -/
theorem V4_ne (d : Dev nD) {r : DevRef τ sig} (h : r ≠ v3') : V4 m d r = V3 m d r := A'_of_ne (V3 m) d h
theorem V4_rest (d : Dev nD) : ∀ r ∈ SU \ Pipeline.arrRefs (τ := τ) spec1, V3 m d r = V4 m d r := by
  intro r hr
  refine (V4_ne m d fun h => (Finset.mem_sdiff.1 hr).2 ?_).symm
  rw [h]
  exact Finset.mem_map_of_mem _ (Finset.mem_image_of_mem _ (Finset.mem_univ (3 : Fin 4)))

/-- The program's result. -/
def outVal (d : Dev nD) : S64x14x14x768.Idx → Elt F .f32 :=
  transpose S64x14x14x768 [2, 0, 1, 3]
    (scaled (transpose S14x14x64x768 [1, 2, 0, 3] (m (xLoc d)) transposes_S64x14x14x768_S14x14x64x768_1_2_0_3) (gVal m d) (bVal m d))
    transposes_S14x14x64x768_S64x14x14x768_2_0_1_3

theorem V4_v3 (d : Dev nD) :
    V4 m d v3' = scaled (transpose S14x14x64x768 [1, 2, 0, 3] (m (xLoc d)) transposes_S64x14x14x768_S14x14x64x768_1_2_0_3) (gVal m d) (bVal m d) := by
  unfold V4
  rw [A'_v3]
  unfold xIn gIn bIn
  rw [show V3 m d (Proc.devRef .tc main_v2) = _ from V3_xt m d,
    show V3 m d (Proc.devRef .tc main_v1_0) = _ from (V3_ne m d (r := g') (by decide)).trans (V2_g m d),
    show V3 m d (Proc.devRef .tc main_v1_1) = _ from (V3_ne m d (r := b') (by decide)).trans (V2_b m d)]

theorem V5_o (d : Dev nD) : V5 m d o' = outVal m d := by
  unfold V5
  refine (StableHlo.unary_result' (τ := τ) (Val := Elt F) _ _ _ (V4 m d)).trans ?_
  rw [show V4 m d (Proc.devRef .tc main_v3) = _ from V4_v3 m d]
  rfl
theorem V5_arg (d : Dev nD) {r : DevRef τ sig} (h : r ∉ ({lab', g', b', xt', v3', o'} : Finset (DevRef τ sig))) : V5 m d r = m (d, r) := by
  simp only [Finset.mem_insert, Finset.mem_singleton, not_or] at h
  have h5 : V5 m d r = V4 m d r := (opB (F := F)).result_of_not_mem _ (show r ∉ ({o'} : Finset (DevRef τ sig)) by simpa using h.2.2.2.2.2)
  rw [h5, V4_ne m d h.2.2.2.2.1, V3_ne m d (by simpa using h.2.2.2.1), V2_ne m d (by simp [h.1, h.2.1, h.2.2.1])]

/-! ## Sets of arrays, one by one -/

theorem held_SC5 (d : Dev nD) (V : Valuation τ sig (Elt F)) :
    (held (T d) SC5 V : sProp 𝕄) = iprop((gamLoc d ↦{fullShare} V gam') ∗ (betLoc d ↦{fullShare} V bet') ∗ (labLoc d ↦{fullShare} V lab')
      ∗ (gLoc d ↦{fullShare} V g') ∗ (bLoc d ↦{fullShare} V b')) := by
  unfold held SC5
  rw [SparseCore.bigSep_insert' (by decide), SparseCore.bigSep_insert' (by decide), SparseCore.bigSep_insert' (by decide),
    SparseCore.bigSep_insert' (by decide), bigSep_singleton]
theorem held_SF5 (d : Dev nD) (V : Valuation τ sig (Elt F)) :
    (held (T d) SF5 V : sProp 𝕄) = iprop((xLoc d ↦{fullShare} V x') ∗ (lLoc d ↦{fullShare} V l') ∗ (gamLoc d ↦{fullShare} V gam')
      ∗ (betLoc d ↦{fullShare} V bet') ∗ ((SparseCore.T d).loc main_v4 ↦{fullShare} V o')) := by
  unfold held SF5
  rw [SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) SU (V0 m d) :=
  Pipeline.unscopedBufs_held d (V0 m d)

/-- The arrays before the SparseCore call, and after. -/
theorem before_call (d : Dev nD) : (held (T d) SU (V1 m d) : sProp 𝕄) = iprop(callPts m d (m (gLoc d)) (m (bLoc d)) ∗ held (T d) (SU \ SC5) (V1 m d)) := by
  rw [StableHlo.held_sub_split (T d) SC5_sub, held_SC5, V1_ne m d (r := gam') (by decide), V1_ne m d (r := bet') (by decide), V1_lab,
    V1_ne m d (r := g') (by decide), V1_ne m d (r := b') (by decide)]
  rfl
theorem after_call (d : Dev nD) : (held (T d) SU (V2 m d) : sProp 𝕄) = iprop(callPts m d (gVal m d) (bVal m d) ∗ held (T d) (SU \ SC5) (V1 m d)) := by
  rw [StableHlo.held_sub_split (T d) SC5_sub, held_SC5, V2_ne m d (r := gam') (by decide), V2_ne m d (r := bet') (by decide), V2_lab, V2_g, V2_b,
    StableHlo.held_congr (T d) (V2_rest m d)]
  rfl
/-- The arrays before the TensorCore call, and after. -/
theorem before_region (d : Dev nD) : (held (T d) SU (V3 m d) : sProp 𝕄)
    = iprop(held (T d) (Pipeline.arrRefs spec1) (V3 m d) ∗ held (T d) (SU \ Pipeline.arrRefs spec1) (V3 m d)) :=
  StableHlo.held_sub_split (T d) arr_sub _
theorem after_region (d : Dev nD) : (held (T d) SU (V4 m d) : sProp 𝕄)
    = iprop(held (T d) (Pipeline.arrRefs spec1) (A' (V3 m) d) ∗ held (T d) (SU \ Pipeline.arrRefs spec1) (V3 m d)) := by
  rw [StableHlo.held_sub_split (T d) arr_sub, StableHlo.held_congr (T d) (V4_rest m d)]
  rfl

/-- What @main leaves the claim: the arguments as launched, the result at its value. -/
def FIN (d : Dev nD) : sProp 𝕄 :=
  iprop((xLoc d ↦{fullShare} m (xLoc d)) ∗ (lLoc d ↦{fullShare} m (lLoc d)) ∗ (gamLoc d ↦{fullShare} m (gamLoc d))
      ∗ (betLoc d ↦{fullShare} m (betLoc d)) ∗ ((SparseCore.T d).loc main_v4 ↦{fullShare} outVal m d))

theorem at_end (d : Dev nD) : (held (T d) SU (V5 m d) : sProp 𝕄) = iprop(FIN m d ∗ held (T d) (SU \ SF5) (V5 m d)) := by
  rw [StableHlo.held_sub_split (T d) SF5_sub, held_SF5, V5_arg m d (r := x') (by decide), V5_arg m d (r := l') (by decide),
    V5_arg m d (r := gam') (by decide), V5_arg m d (r := bet') (by decide), V5_o]
  rfl

end Cert.Proof.Scale

end
-- ==== Proof.Main.lean ====
/-
  The launch: @main on each TensorCore over the steps, the ghost state the program starts with, what the run leaves, and
  the run's theorem at any float values.
-/
module

public import proofs.«01_k».proof.Proof.Steps

@[expose] public section

noncomputable section

namespace Cert.Proof.Scale

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at the launch -/

/-- The staging cells' share of it. -/
abbrev uP : UP := initOf (Pipeline.cells (Pipeline.pin (pcfgs (F := F)) adm) (launch1.toP.cellOf_inj adm))
  (Pipeline.launchToks (Pipeline.pin (pcfgs (F := F)) adm) (launch1.toP.cellOf_inj adm))
def u₀ : UU := (initOf (K (F := F)).hsCells (K (F := F)).hsToks, (uP (F := F), 1))

/-- What each device's TensorCore starts with for its call's staging cells. -/
def G (d : Dev nD) : sProp 𝕄 :=
  iprop(Pipeline.cellsGhost (Pipeline.pin (pcfgs (F := F)) adm) EP 0 d ∗ Pipeline.toksInit (Pipeline.pin (pcfgs (F := F)) adm) EP 0 d)

/-- Nothing, everywhere. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP (F := F), 1) : UP × Counters)) $$ Hu
  icases H with ⟨HH, HR⟩
  ihave HR' := (own_pair_emb embR (uP (F := F)) (1 : Counters)) $$ HR
  icases HR' with ⟨HP, -⟩
  imod (Pipeline.fund_ghost (Pipeline.pin (pcfgs (F := F)) adm) (EP : Emb UP 𝕄) (launch1.toP.cellOf_inj adm)) $$ [HP] with ⟨Hc, Ht⟩
  · iexact HP
  imodintro
  isplitl [HH]; · iexact HH
  isplitl [Hc Ht]
  · unfold G
    rw [bigSep_sep']
    isplitl [Hc]
    · rw [show (bigSep Finset.univ fun d : Dev nD => Pipeline.cellsGhost (Pipeline.pin (pcfgs (F := F)) adm) (EP : Emb UP 𝕄) 0 d)
          = bigSep Finset.univ fun d : Dev nD => bigSep Finset.univ fun p : Fin 1 => Pipeline.cellsGhost (Pipeline.pin (pcfgs (F := F)) adm) EP p d from
          bigSep_congr fun _ _ => by rw [bigSep_univ_of_subsingleton (0 : Fin 1)]]
      iexact Hc
    · rw [show (bigSep Finset.univ fun d : Dev nD => Pipeline.toksInit (Pipeline.pin (pcfgs (F := F)) adm) (EP : Emb UP 𝕄) 0 d)
          = bigSep Finset.univ fun d : Dev nD => bigSep Finset.univ fun p : Fin 1 => Pipeline.toksInit (Pipeline.pin (pcfgs (F := F)) adm) EP p d from
          bigSep_congr fun _ _ => by rw [bigSep_univ_of_subsingleton (0 : Fin 1)]]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on a TensorCore -/

/-- After the one SparseCore call the core's account holds nothing owed, to be put back after the TensorCore call. -/
theorem tcSt_owes (d : Dev nD) : ((K (F := F)).tcSt EH d 1 : sProp 𝕄) ⊢ iprop(owesLow (F := F) d ∗ (owesLow (F := F) d -∗ (K (F := F)).tcSt EH d 1)) := by
  unfold SparseCore.Cfg.tcSt owesLow
  rw [(K (F := F)).Otc_end d (le_refl 1)]
  iintro ⟨HO, Hrest⟩
  isplitl [HO]; · iexact HO
  iintro HO
  isplitl [HO]; · iexact HO
  iexact Hrest

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  -- the labels as a list
  iapply (StableHlo.wp_hlo_within 𝒱 (SparseCore.T d) none Set.univ (op := opL) (S := SU) opL_bufs (V := V0 m d)) $$ [Hb Hheld]
  · isplitl [Hb] <;> iassumption
  iintro ⟨Hb, Hheld⟩
  rw [wp_ret]; imodintro
  ihave Hh := (Entails.of_eq (show (held (T d) SU ((opL (F := F)).result (V0 m d)) : sProp 𝕄) = _ from before_call m d)) $$ Hheld
  icases Hh with ⟨Hcall, Hrest⟩
  -- the rows gathered
  iapply ((K (F := F)).wp_run (D (F := F)) 𝒱 (EH := EH) (P := P m) κ d 0) $$ [Hst Hcall Hb Hrest Hts HG]
  isplitr; · iexact Hctx
  isplitl [Hst]; · iexact Hst
  isplitl [Hcall]; · rw [st_eq]; iexact Hcall
  iintro ⟨Hst, Hdn⟩
  ihave Hdn' := (Entails.of_eq (dn_eq m d)) $$ Hdn
  ihave Hheld := (Entails.of_eq (after_call m d).symm) $$ [Hdn' Hrest]
  · isplitl [Hdn'] <;> iassumption
  -- the input transposed
  iapply (StableHlo.wp_hlo_within 𝒱 (SparseCore.T d) none Set.univ (op := opT) (S := SU) opT_bufs (V := V2 m d)) $$ [Hb Hheld]
  · isplitl [Hb] <;> iassumption
  iintro ⟨Hb, Hheld⟩
  rw [wp_ret]; imodintro
  ihave Hh := (Entails.of_eq (show (held (T d) SU ((opT (F := F)).result (V2 m d)) : sProp 𝕄) = _ from before_region m d)) $$ Hheld
  icases Hh with ⟨Harr, Hrest⟩
  -- scaled and shifted
  ihave Hst' := (show ((K (F := F)).tcSt EH d ((0 : Fin 1).val + 1) : sProp 𝕄) ⊢ _ from tcSt_owes d) $$ Hst
  icases Hst' with ⟨HO, Hback⟩
  unfold G
  icases HG with ⟨Hc, Ht⟩
  ihave Hl := ((SparseCore.Cfg.ctx_levAts (K := K (F := F)) (EH := EH) (P := P m) κ)) $$ Hctx
  ihave Hw := (call_run (V3 m) d) $$ [Hb Harr HO Hl Hc Ht]
  · unfold callPre
    isplitl [Hb]; · iexact Hb
    isplitl [Harr]; · iexact Harr
    isplitl [HO]; · iexact HO
    isplitl [Hl]; · iexact Hl
    isplitl [Hc]; · iexact Hc
    iexact Ht
  iapply (wp_wand_r _ _ _)
  isplitl [Hw]; · iexact Hw
  iintro %_ Hpost
  unfold callPost
  icases Hpost with ⟨Hb, Harr, HO⟩
  ihave Hst := Hback $$ HO
  ihave Hheld := (Entails.of_eq (after_region m d).symm) $$ [Harr Hrest]
  · isplitl [Harr] <;> iassumption
  -- and transposed back
  iapply (StableHlo.wp_hlo_within 𝒱 (SparseCore.T d) none Set.univ (op := opB) (S := SU) opB_bufs (V := V4 m d)) $$ [Hb Hheld]
  · isplitl [Hb] <;> iassumption
  iintro ⟨Hb, Hheld⟩
  ihave Hh := (Entails.of_eq (show (held (T d) SU ((opB (F := F)).result (V4 m d)) : sProp 𝕄) = _ from at_end m d)) $$ Hheld
  icases Hh with ⟨Hfin, -⟩
  rw [wp_ret]; imodintro; imodintro
  isplitl [Hst]; · iexact Hst
  isplitl [Hfin]; · iexact Hfin
  isplitl [Hb] <;> iassumption

/-! ## What the run leaves -/

/-- Device `d`'s arguments as launched and its result at its value. -/
def fq (d : Dev nD) (s' : Phys nD τ sig (Elt F)) : Prop :=
  s'.mem.mem (xLoc d) = m (xLoc d) ∧ s'.mem.mem (lLoc d) = m (lLoc d) ∧ s'.mem.mem (gamLoc d) = m (gamLoc d) ∧ s'.mem.mem (betLoc d) = m (betLoc d)
    ∧ s'.mem.mem ((SparseCore.T d).loc main_v4) = outVal m d

/-- A whole array held beside the machine's state is what the memory holds. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  refine (persistent_entails_right (SI_pointsTo_agree (st := s') (ℓ := ℓ) (I := Finset.univ) (q := fullShare) (f := f))).trans ?_
  iintro ⟨%h, H⟩
  isplitr; · ipureintro; exact funext fun i => h i (Finset.mem_univ i)
  iexact H

theorem hfin (d : Dev nD) (s' : Phys nD τ sig (Elt F)) : iprop(FIN m d ∗ SI s') ⊢ (⌜fq m d s'⌝ : sProp 𝕄) := by
  unfold FIN
  iintro ⟨⟨Hx, Hl, Hg, Hb, Ho⟩, HSI⟩
  ihave H := (agree s' (xLoc d) (m (xLoc d))) $$ [HSI Hx]
  · isplitl [HSI] <;> iassumption
  icases H with ⟨%hx, HSI, -⟩
  ihave H := (agree s' (lLoc d) (m (lLoc d))) $$ [HSI Hl]
  · isplitl [HSI] <;> iassumption
  icases H with ⟨%hl, HSI, -⟩
  ihave H := (agree s' (gamLoc d) (m (gamLoc d))) $$ [HSI Hg]
  · isplitl [HSI] <;> iassumption
  icases H with ⟨%hg, HSI, -⟩
  ihave H := (agree s' (betLoc d) (m (betLoc d))) $$ [HSI Hb]
  · isplitl [HSI] <;> iassumption
  icases H with ⟨%hb, HSI, -⟩
  ihave H := (agree s' ((SparseCore.T d).loc main_v4) (outVal m d)) $$ [HSI Ho]
  · isplitl [HSI] <;> iassumption
  icases H with ⟨%ho, HSI, -⟩
  ipureintro; exact ⟨hx, hl, hg, hb, ho⟩

def QC : PUnit × MemSt nD τ sig (Elt F) → Prop := fun r =>
  (∀ d : Dev nD, r.2.mem (xLoc d) = m (xLoc d) ∧ r.2.mem (lLoc d) = m (lLoc d) ∧ r.2.mem (gamLoc d) = m (gamLoc d) ∧ r.2.mem (betLoc d) = m (betLoc d)
    ∧ r.2.mem ((SparseCore.T d).loc main_v4) = outVal m d) ∧ r.2.sem = fun _ => 0

/-- The whole program's run from labels in range: complete, the arguments kept, the result at its value. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Scale

end
-- ==== Proof.Take.lean ====
/-
  What the reference's `take` computes. It wraps a negative label round by the table's height, looks a row up at the
  label, and puts a NaN where the label lies outside the table. For labels in 0 … 999 none of that shows: the row is the
  table's own at the label.
-/
module

public import proofs.«01_k».proof.Proof.Setup
public import proofs.«01_k».proof.Proof.Gen.ReferenceIdeal
public import Idealize.ShloMosaic.Lib.ReduceAll
public import Idealize.ShloMosaic.Lib.Routing.Ops

@[expose] public section

noncomputable section

namespace Cert.Proof.Scale.Ref

open Cert.ReferenceIdeal Cert.ReferenceIdeal.Gen
open Idealize.ShloMosaic Idealize.ShloMosaic.ValueIdx

variable {F : FTy → Type} [FloatOps F]

/-- The row numbers the lookup starts at: each label, a negative one moved up by 1000, as a column. -/
def start (l : IVec S64 32) : IVec S64x1 32 :=
  broadcastInDim S64x1 ![0] bcast_S64_S64x1_0
    (select (cmpi .slt l (broadcastInDim S64 ![] bcast_S_S64 (constantI S_ 32 0#32)))
      (addi l (broadcastInDim S64 ![] bcast_S_S64 (constantI S_ 32 1000#32))) l)

/-- Which row numbers lie in the table. -/
def inside (l : IVec S64 32) : IVec S64 1 :=
  Host.reduce IntOp.andi
    (andi (cmpi .sge (start l) (broadcastInDim S64x1 ![] bcast_S_S64x1 (constantI S_ 32 0#32)))
      (cmpi .sle (start l) (broadcastInDim S64x1 ![0, 1] bcast_S1x1_S64x1_0_1
        (broadcastInDim S1x1 ![1] bcast_S1_S1x1_1 (constantI S1 32 999#32)))))
    (constantI S_ 1 1#1) reducesTo_S64x1_S64_d1 h_S_

/-- The looked-up rows, a NaN in each row whose number lies outside the table. -/
def take (t : FVec F S1000x768 .f32) (l : IVec S64 32) : FVec F S64x768 .f32 :=
  select (broadcastInDim S64x768 ![0] bcast_S64_S64x768_0 (inside l))
    (Host.gather gather_S1000x768_S64x1_S64x768_1_0_n_n_0_1_1768 t (start l))
    (broadcastInDim S64x768 ![] bcast_S_S64x768 (constant S_ .f32 0x7FC00000#32))

/-- A word below 1000 is not negative. -/
theorem not_neg (v : BitVec 32) (hv : v.toNat < 1000) : IntOp.cmpi .slt v 0#32 = 0#1 := by
  have e : v.toInt = v.toNat := by rw [BitVec.toInt_eq_toNat_cond, if_pos (by omega)]
  have h : ¬ ((v.toNat : ℤ) < 0) := by omega
  simp [IntOp.cmpi, BitVec.slt_eq_decide, e, h]

/-- A word below 1000 passes both bounds of the table. -/
theorem in_table (v : BitVec 32) (hv : v.toNat < 1000) :
    IntOp.andi (IntOp.cmpi .sge v 0#32) (IntOp.cmpi .sle v 999#32) = 1#1 := by
  have e : v.toInt = v.toNat := by rw [BitVec.toInt_eq_toNat_cond, if_pos (by omega)]
  have h : v.toNat ≤ 999 := by omega
  simp [IntOp.cmpi, IntOp.andi, BitVec.sle_eq_decide, e, h]

/-- The starting row numbers are the labels themselves. -/
theorem start_eq (l : IVec S64 32) (hl : ∀ j, (l j).toNat < 1000) (i : S64x1.Idx) : start l i = l (at1 (n := 64) (i 0)) := by
  refine (broadcastInDim_apply (s := S64) (t := S64x1) ![0] _ _ i (at1 (n := 64) (i 0)) fun a => ?_).trans ?_
  · match a with
    | ⟨0, _⟩ => rfl
  · show Scalar.select (IntOp.cmpi .slt (l _) 0#32) _ _ = _
    rw [not_neg _ (hl _)]
    rfl

/-- No row is marked as outside. -/
theorem inside_eq (l : IVec S64 32) (hl : ∀ j, (l j).toNat < 1000) (j : S64.Idx) : inside l j = 1#1 := by
  refine Host.reduce_andi_one _ _ _ _ j rfl fun i => ?_
  show IntOp.andi (IntOp.cmpi .sge (start l i) 0#32) (IntOp.cmpi .sle (start l i) 999#32) = 1#1
  rw [start_eq l hl]
  exact in_table _ (hl _)

/-- Row `c` of the lookup is the table's row at label `c`. -/
theorem take_apply (t : FVec F S1000x768 .f32) (l : IVec S64 32) (hl : ∀ j, (l j).toNat < 1000) (c : Fin 64) (y : Fin 768) :
    take t l (ix2 c y) = t (ix2 (rowOf (l (at1 (n := 64) c))) y) := by
  have hm : broadcastInDim S64x768 ![0] bcast_S64_S64x768_0 (inside l) (ix2 c y) = 1#1 := by
    refine (broadcastInDim_apply (s := S64) (t := S64x768) ![0] _ _ (ix2 c y) (at1 (n := 64) c) fun a => ?_).trans (inside_eq l hl _)
    match a with
    | ⟨0, _⟩ => rfl
  have hg := Routing.gather_row gather_S1000x768_S64x1_S64x768_1_0_n_n_0_1_1768 rfl rfl rfl rfl rfl t (start l) c y
    (rowOf (l (at1 (n := 64) c))) (by
      rw [start_eq l hl]
      refine BitVec.eq_of_toNat_eq ?_
      rw [BitVec.toNat_ofNat]
      show (l (at1 (n := 64) c)).toNat = ((l (at1 (n := 64) c)).toNat % 1000) % 2 ^ 32
      have := hl (at1 (n := 64) c)
      omega) (by norm_num)
  show Scalar.select (broadcastInDim S64x768 ![0] bcast_S64_S64x768_0 (inside l) (ix2 c y))
    (Host.gather gather_S1000x768_S64x1_S64x768_1_0_n_n_0_1_1768 t (start l) (ix2 c y)) _ = _
  rw [hm, hg]
  rfl

end Cert.Proof.Scale.Ref

end
-- ==== Proof.Ref.lean ====
/-
  The run of the reference: a straight line of host operations, the two calls of `take` among them, which leaves in its
  result `x * γ + β` with `γ` and `β` the looked-up rows broadcast over the two middle axes.
-/
module

public import proofs.«01_k».proof.Proof.Take
public import Idealize.ShloMosaic.Lib.StableHlo.Run
public import Idealize.ShloMosaic.Lib.Quiescent

@[expose] public section

noncomputable section

namespace Cert.Proof.Scale.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of one call of `take`, on a table, the labels and the call's own buffers. -/
def takeOps (a : TRef sig ⟨S1000x768, .f32⟩) (b : TRef sig ⟨S64, .i32⟩) (φ : fn_take.Bufs) : List (HloOp τ sig (Elt F)) :=
  [ TRef.nullary φ.c (constantI S_ 32 0#32),
    TRef.unary φ.c φ.v0 (broadcastInDim S64 ![] bcast_S_S64),
    TRef.binary b φ.v0 φ.v1 (cmpi .slt),
    TRef.nullary φ.c_0 (constantI S_ 32 1000#32),
    TRef.unary φ.c_0 φ.v2 (broadcastInDim S64 ![] bcast_S_S64),
    TRef.binary b φ.v2 φ.v3 addi,
    TRef.ternary φ.v1 φ.v3 b φ.call0.v0 select,
    TRef.unary φ.call0.v0 φ.v5 (broadcastInDim S64x1 ![0] bcast_S64_S64x1_0),
    TRef.nullary φ.c_1 (constantI S1 32 999#32),
    TRef.nullary φ.c_2 (constantI S_ 32 0#32),
    TRef.unary φ.c_2 φ.v6 (broadcastInDim S64x1 ![] bcast_S_S64x1),
    TRef.binary φ.v5 φ.v6 φ.v7 (cmpi .sge),
    TRef.unary φ.c_1 φ.v8 (broadcastInDim S1x1 ![1] bcast_S1_S1x1_1),
    TRef.unary φ.v8 φ.v9 (broadcastInDim S64x1 ![0, 1] bcast_S1x1_S64x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S64x1_S64_d1 h_S_),
    TRef.binary a φ.v5 φ.v13 (fun x i => Host.gather gather_S1000x768_S64x1_S64x768_1_0_n_n_0_1_1768 x i),
    TRef.unary φ.v12 φ.v14 (broadcastInDim S64x768 ![0] bcast_S64_S64x768_0),
    TRef.nullary φ.cst (constant S_ .f32 0x7FC00000#32),
    TRef.unary φ.cst φ.v15 (broadcastInDim S64x768 ![] bcast_S_S64x768),
    TRef.ternary φ.v14 φ.v13 φ.v15 φ.v16 select ]

/-- The operations after the first lookup, up to the second. -/
def midOps : List (HloOp τ sig (Elt F)) :=
  [ reshape main_v1 main_v2 (rfl : (.f32 : EltTy) = .f32) shapeCasts_S64x768_S64x1x1x768,
    unary main_v2 main_v3 (broadcastInDim S64x14x14x768 ![0, 1, 2, 3] bcast_S64x1x1x768_S64x14x14x768_0_1_2_3),
    binary main_arg0 main_v3 main_v4 mulf ]

/-- The operations after the second lookup. -/
def endOps : List (HloOp τ sig (Elt F)) :=
  [ reshape main_v5 main_v6 (rfl : (.f32 : EltTy) = .f32) shapeCasts_S64x768_S64x1x1x768,
    unary main_v6 main_v7 (broadcastInDim S64x14x14x768 ![0, 1, 2, 3] bcast_S64x1x1x768_S64x14x14x768_0_1_2_3),
    binary main_v4 main_v7 main_v8 addf ]

/-- The reference's operations in order. -/
def ops : List (HloOp τ sig (Elt F)) :=
  reshape main_arg1 main_v0 (rfl : (.i32 : EltTy) = .i32) shapeCasts_S64x1_S64 ::
    (takeOps (.of main_arg2) (.of main_v0) main_call0 ++
      (midOps ++ (takeOps (.of main_arg3) (.of main_v0) main_call1 ++ endOps)))

set_option maxRecDepth 2048 in
/-- The reference is that straight line. -/
theorem main_eq (c : Dev nD) : main (F := F) c = seq ops := by
  simp only [main, fn_take.body, fn_where.body, ops, takeOps, midOps, endOps, List.cons_append, List.nil_append, seq,
    bind_assoc, pure_bind]

/-- Looked-up rows, spread over the two middle axes. -/
def spread (g : FVec F S64x768 .f32) : FVec F S64x14x14x768 .f32 :=
  broadcastInDim S64x14x14x768 ![0, 1, 2, 3] bcast_S64x1x1x768_S64x14x14x768_0_1_2_3
    (shapeCast S64x1x1x768 g shapeCasts_S64x768_S64x1x1x768)

/-- What the reference leaves in its result. -/
def out (x : FVec F S64x14x14x768 .f32) (l : IVec S64x1 32) (γ β : FVec F S1000x768 .f32) : FVec F S64x14x14x768 .f32 :=
  addf (mulf x (spread (take γ (shapeCast S64 l shapeCasts_S64x1_S64)))) (spread (take β (shapeCast S64 l shapeCasts_S64x1_S64)))

/-- The result ends at `out` of the arguments. -/
theorem out_eq (V : Valuation τ sig (Elt F)) :
    after ops V (main_v8 : DevRef τ sig)
      = out (V (main_arg0 : DevRef τ sig)) (V (main_arg1 : DevRef τ sig)) (V (main_arg2 : DevRef τ sig)) (V (main_arg3 : DevRef τ sig)) := by
  simp only [ops, takeOps, midOps, endOps, List.cons_append, List.nil_append]
  after_results_simp
  rfl

theorem arg0_eq (V : Valuation τ sig (Elt F)) : after ops V (main_arg0 : DevRef τ sig) = V (main_arg0 : DevRef τ sig) := by
  simp only [ops, takeOps, midOps, endOps, List.cons_append, List.nil_append]
  after_results_simp

theorem arg1_eq (V : Valuation τ sig (Elt F)) : after ops V (main_arg1 : DevRef τ sig) = V (main_arg1 : DevRef τ sig) := by
  simp only [ops, takeOps, midOps, endOps, List.cons_append, List.nil_append]
  after_results_simp

theorem arg2_eq (V : Valuation τ sig (Elt F)) : after ops V (main_arg2 : DevRef τ sig) = V (main_arg2 : DevRef τ sig) := by
  simp only [ops, takeOps, midOps, endOps, List.cons_append, List.nil_append]
  after_results_simp

theorem arg3_eq (V : Valuation τ sig (Elt F)) : after ops V (main_arg3 : DevRef τ sig) = V (main_arg3 : DevRef τ sig) := by
  simp only [ops, takeOps, midOps, endOps, List.cons_append, List.nil_append]
  after_results_simp

theorem ops_sub : (ops : List (HloOp τ sig (Elt F))).Forall fun op => op.bufs ⊆ tcRefs τ sig := by
  simp only [ops, takeOps, midOps, endOps, List.cons_append, List.nil_append, List.Forall]
  simp only [TRef.nullary, TRef.unary, TRef.binary, TRef.ternary, nullary_bufs_sub, unary_bufs_sub, binary_bufs_sub,
    ternary_bufs_sub, reshape_bufs_sub, and_self]

theorem ops_fresh : ∀ op ∈ (ops : List (HloOp τ sig (Elt F))), op.fresh = ∅ := by
  intro op h
  simp only [ops, takeOps, midOps, endOps, List.cons_append, List.nil_append] at h
  (repeat (cases h with | head => rfl | tail _ h => ?_))
  exact nomatch h

/-- From any memory with zero counters the reference runs to its end, its result at `out` of its arguments, its arguments
    as they were. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v8)
          = out (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run (defs (F := F)) _ _).mono
    (fun r h => ⟨fun c => ⟨(h c main_v8).trans (out_eq _), (h c main_arg0).trans (arg0_eq _), (h c main_arg1).trans (arg1_eq _),
      (h c main_arg2).trans (arg2_eq _), (h c main_arg3).trans (arg3_eq _)⟩, sem_eq_zero_of_no_sems (by decide) r.2⟩)
    (run_seq (by decide) (by decide) defs main (fun _ => ops) main_eq (fun _ => ops_sub) m ρ (fun _ => ops_fresh))

end Cert.Proof.Scale.Ref

end
-- ==== Proof.Value.lean ====
/-
  The kernel's result and the reference's are one array: element `(b, h, w, c)` of both is the argument's there times entry
  `c` of the first table's row at label `b`, plus that of the second table. And the precondition, every label in
  0 … 999 as a signed word, is what the kernel's run asks of the launch memory.
-/
module

public import proofs.«01_k».proof.Proof.Main
public import proofs.«01_k».proof.Proof.Ref

@[expose] public section

noncomputable section

namespace Cert.Proof.Scale

open Cert.KernelIdeal Cert.KernelIdeal.Gen
open Idealize.ShloMosaic Idealize.ShloMosaic.ValueIdx

variable {F : FTy → Type} [FloatOps F]

/-- The looked-up rows spread over the middle axes, at an index, are the kernel's gathered rows. -/
theorem spread_take (t : FVec F S1000x768 .f32) (l : IVec S64 32) (hl : ∀ j, (l j).toNat < 1000) (j : S64x14x14x768.Idx) :
    Ref.spread (Ref.take t l) j = lookup t l (at2 (n := 64) (k := 768) (j 0) (j 3)) := by
  refine (broadcastInDim_apply (s := ⟨4, ![64, 1, 1, 768]⟩) (t := S64x14x14x768) ![0, 1, 2, 3] _ _ j
    (fun | 0 => (j 0 : Fin 64) | 1 => (0 : Fin 1) | 2 => (0 : Fin 1) | 3 => (j 3 : Fin 768)) fun a => ?_).trans ?_
  · match a with
    | ⟨0, _⟩ => rfl
    | ⟨1, _⟩ => rfl
    | ⟨2, _⟩ => rfl
    | ⟨3, _⟩ => rfl
  refine (shapeCast_apply _ _ _ (ix2 (n0 := 64) (n1 := 768) (j 0) (j 3)) ?_).trans ?_
  · rw [Shape.rowMajor_val_two, Shape.rowMajor_val_four]
    show (j 0).val * 768 + (j 3).val = (((j 0).val * 1 + 0) * 1 + 0) * 768 + (j 3).val
    omega
  · refine (Ref.take_apply t l hl (j 0) (j 3)).trans (congrArg t (funext fun a => ?_))
    match a with
    | ⟨0, _⟩ => rfl
    | ⟨1, _⟩ => rfl

/-- The kernel's result at an index. -/
theorem outVal_apply (m : (ℓ : Loc nD τ sig) → Buf (Elt F) ℓ) (d : Dev nD) (j : S64x14x14x768.Idx) :
    outVal m d j = FloatOps.addf (F := F) (φ := .f32) (FloatOps.mulf (F := F) (φ := .f32) (m (xLoc d) j)
      (gVal m d (at2 (n := 64) (k := 768) (j 0) (j 3)))) (bVal m d (at2 (n := 64) (k := 768) (j 0) (j 3))) := by
  refine (transpose_apply (s := S14x14x64x768) (t := S64x14x14x768) [2, 0, 1, 3] _ _ j
    (fun | 0 => (j 1 : Fin 14) | 1 => (j 2 : Fin 14) | 2 => (j 0 : Fin 64) | 3 => (j 3 : Fin 768)) fun b => ?_).trans ?_
  · match b with
    | ⟨0, _⟩ => rfl
    | ⟨1, _⟩ => rfl
    | ⟨2, _⟩ => rfl
    | ⟨3, _⟩ => rfl
  unfold scaled
  rw [transpose_apply (s := S64x14x14x768) (t := S14x14x64x768) [1, 2, 0, 3] (m (xLoc d)) _ _ j fun b => by
    match b with
    | ⟨0, _⟩ => rfl
    | ⟨1, _⟩ => rfl
    | ⟨2, _⟩ => rfl
    | ⟨3, _⟩ => rfl]

/-- The labels as a list, by the reference's reshape and by the kernel's reading. -/
theorem labs_eq (m : (ℓ : Loc nD τ sig) → Buf (Elt F) ℓ) (d : Dev nD) :
    shapeCast S64 (m (lLoc d) : S64x1.Idx → BitVec 32) shapeCasts_S64x1_S64 = labs m d :=
  funext fun j => cast_labels _ j

/-- From labels in range, the kernel's result is the reference's of the same arguments. -/
theorem out_eq_outVal (m : (ℓ : Loc nD τ sig) → Buf (Elt F) ℓ) (hpre : PreOK m) (d : Dev nD) :
    Ref.out (m (xLoc d)) (m (lLoc d)) (m (gamLoc d)) (m (betLoc d)) = outVal m d := by
  funext j
  rw [outVal_apply]
  unfold Ref.out
  have hl : shapeCast S64 (m (lLoc d) : S64x1.Idx → BitVec 32) Cert.ReferenceIdeal.Gen.shapeCasts_S64x1_S64 = labs m d := labs_eq m d
  show FloatOps.addf (FloatOps.mulf (m (xLoc d) j) (Ref.spread (Ref.take (m (gamLoc d)) (shapeCast S64 (m (lLoc d) : S64x1.Idx → BitVec 32) _)) j))
    (Ref.spread (Ref.take (m (betLoc d)) (shapeCast S64 (m (lLoc d) : S64x1.Idx → BitVec 32) _)) j) = _
  rw [hl, spread_take _ _ (hpre d), spread_take _ _ (hpre d)]
  rfl

/-- The precondition's stated facts. -/
theorem preFacts : Cert.Pre_labels_in_range.Facts := ⟨by decide, by decide, by decide⟩

/-- A word at least 0 and below 1000 as a signed word is below 1000. -/
theorem lt_of_bounds (v : BitVec 32) (h : IntOp.andi (IntOp.cmpi .sge v 0#32) (IntOp.cmpi .slt v 1000#32) = 1#1) : v.toNat < 1000 := by
  have h0 : (0#32).sle v = true ∧ v.slt 1000#32 = true := by
    revert h
    simp only [IntOp.andi, IntOp.cmpi]
    cases (0#32).sle v <;> cases v.slt 1000#32 <;> decide
  obtain ⟨h1, h2⟩ := h0
  rw [BitVec.sle_eq_decide, decide_eq_true_eq] at h1
  rw [BitVec.slt_eq_decide, decide_eq_true_eq] at h2
  have e1 : (0#32 : BitVec 32).toInt = 0 := by decide
  have e2 : (1000#32 : BitVec 32).toInt = 1000 := by decide
  rw [e1] at h1
  rw [e2] at h2
  rw [BitVec.toInt_eq_toNat_cond] at h1 h2
  split at h1 <;> omega

/-- The precondition puts every label below 1000. -/
theorem labels_lt [Cert.Pre_labels_in_range.Facts] (x : FVec F S64x14x14x768 .f32) (l : IVec S64x1 32) (γ β : FVec F S1000x768 .f32)
    (h : Cert.Pre_labels_in_range.fn x l γ β = fun _ => 1#1) (i : S64x1.Idx) : (l i).toNat < 1000 := by
  dsimp only [Cert.Pre_labels_in_range.fn] at h
  haveI : Subsingleton (⟨0, ![]⟩ : Shape).Idx := ⟨fun a b => funext fun k => k.elim0⟩
  exact lt_of_bounds _ (Host.reduce_andi_all _ _ _ _ _ (congrFun h (fun k => k.elim0)) i)

end Cert.Proof.Scale

end
-- ==== Proof.Same.lean ====
/-
  The kernel as printed and its idealized printing are one text: their bodies' tables are equal, label by label.
-/
module

public import proofs.«01_k».proof.Defs
public import proofs.«01_k».proof.Proof.Gen.Kernel
public import proofs.«01_k».proof.Proof.Gen.KernelIdeal

@[expose] public section

noncomputable section

namespace Cert.Proof.Scale

open Idealize.ShloMosaic

/-- The two tables of kernel bodies. -/
theorem same_bodies : Cert.Kernel.defs₀ (F := Bits) = Cert.KernelIdeal.defs₀ (F := Bits) := by
  funext c ℓ a
  match c, ℓ, a with
  | .scVector c s, ⟨0, _⟩, _ => rfl
  | .scVector c s, ⟨1, _⟩, _ => rfl
  | .scScalar c, ⟨0, _⟩, _ => rfl
  | .scScalar c, ⟨1, _⟩, _ => rfl
  | .tc, ⟨0, _⟩, _ => rfl
  | .tc, ⟨1, _⟩, _ => rfl

/-- The two programs' tables. -/
theorem same_defs : Cert.Kernel.defs (F := Bits) = Cert.KernelIdeal.defs (F := Bits) :=
  congrArg (fun x => Cert.KernelIdeal.sc.defs (Pipeline.defs Cert.KernelIdeal.pcfgs x)) same_bodies

end Cert.Proof.Scale

end
-- ==== Proof.lean ====
/-
  The proof of `Cert.Claim`: the kernel's run (Proof/Main.lean, once over any float values), the reference's run
  (Proof/Ref.lean), and that the two results are one array (Proof/Value.lean), read at each claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Proof.Scale

variable [Cert.Pre_labels_in_range.Facts]

/-- Labels in range at the kernel's own floats. -/
theorem ok_kernel (m : (ℓ : Loc Cert.Kernel.nD Cert.Kernel.τ Cert.Kernel.sig) → Buf (Elt Bits) ℓ) (h : Cert.Pre_Kernel m) :
    PreOK (F := Bits) m := fun d j => labels_lt _ _ _ _ (h d) (at2 (n := 64) (k := 1) (j 0) 0)

/-- Labels in range over the reals. -/
theorem ok_ideal (m : (ℓ : Loc Cert.KernelIdeal.nD Cert.KernelIdeal.τ Cert.KernelIdeal.sig) → Buf (Elt Ideal) ℓ)
    (h : Cert.Pre_KernelIdeal m) : PreOK (F := Ideal) m := fun d j => labels_lt _ _ _ _ (h d) (at2 (n := 64) (k := 1) (j 0) 0)

/-- `Cert.quiescent_Kernel`: the two printings are one text, so the run at the machine's floats is the idealized program's. -/
theorem frame_kernel : Cert.quiescent_Kernel := by
  intro m ρ hpre
  rw [same_defs]
  exact (θ_run (Cert.KernelIdeal.defs (F := Bits)) _ _).mono
    (fun _ h => ⟨fun c => ⟨(h.1 c).1, (h.1 c).2.1, (h.1 c).2.2.1, (h.1 c).2.2.2.1⟩, h.2⟩)
    (Scale.run_main (F := Bits) m ρ (ok_kernel m hpre))

/-- `Cert.quiescent_KernelIdeal`. -/
theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (Scale.run_main (F := Ideal) m ρ (ok_ideal m hpre))

/-- `Cert.quiescent_ReferenceIdeal`. -/
theorem frame_reference : Cert.quiescent_ReferenceIdeal := fun m ρ _ =>
  (θ_run Cert.ReferenceIdeal.defs _ _).mono (fun _ h => ⟨fun c => (h.1 c).2, h.2⟩) (Ref.run_main (F := Ideal) m ρ)

/-- The same under the kernel's precondition, which it does not need. -/
theorem frame_reference_pre : Cert.quiescent_ReferenceIdeal_pre_labels_in_range := fun m ρ _ => frame_reference m ρ trivial

/-- `Cert.algebraic_KernelIdeal_ReferenceIdeal`: the shared value is the kernel's result, which the reference's is too, its
    arguments being the kernel's. -/
theorem algebraic : Cert.algebraic_KernelIdeal_ReferenceIdeal := by
  intro m g m' g' hpre hagree
  have hok := ok_ideal m hpre
  refine ⟨fun c => outVal m c, ?_, ?_⟩
  · exact (θ_run Cert.KernelIdeal.defs _ _).mono
      (fun _ h c => ⟨(h.1 c).2.2.2.2, (h.1 c).1, (h.1 c).2.1, (h.1 c).2.2.1, (h.1 c).2.2.2.1⟩) (Scale.run_main (F := Ideal) m g hok)
  · refine (θ_run Cert.ReferenceIdeal.defs _ _).mono (fun _ h c => ⟨(h.1 c).1.trans ?_, (h.1 c).2⟩) (Ref.run_main (F := Ideal) m' g')
    rw [(hagree c).1, (hagree c).2.1, (hagree c).2.2.1, (hagree c).2.2.2]
    exact out_eq_outVal m hok c

omit [Cert.Pre_labels_in_range.Facts] in
/-- Everything the certificate claims. -/
theorem claim : Cert.Claim :=
  haveI := preFacts
  ⟨Cert.Kernel.Gen.facts, Cert.KernelIdeal.Gen.facts, Cert.ReferenceIdeal.Gen.facts, preFacts,
    frame_kernel, frame_ideal, frame_reference, frame_reference_pre, trivial, algebraic⟩

end Cert.Proof

end
